-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 4096, 16, 128]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨4, ![1, 1024, 16, 128]⟩ ⟨4, ![1, 4096, 16, 128]⟩ (Layout.meshBlock [2, 4, 4] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S1x1024x16x128 : Shape := ⟨4, ![1, 1024, 16, 128]⟩
abbrev S_ : Shape := ⟨0, ![]⟩

class Facts : Prop where
  bitsLt_bf16_f32 : FTy.bits .bf16 < FTy.bits .f32
  bcast_S_S1x1024x16x128 : S_.BroadcastsInDim S1x1024x16x128 (![] : Fin 0 → Fin S1x1024x16x128.rank)

variable [Facts]

def fn {F : FTy → Type} [FloatOps F] (main_arg0 : FVec F S1x1024x16x128 .bf16) (main_arg1 : FVec F S1x1024x16x128 .bf16) (main_arg2 : FVec F S1x1024x16x128 .bf16) : IVec S1x1024x16x128 1 :=
  let main_v0 : FVec F S1x1024x16x128 .f32 := (extf .f32 · bitsLt_bf16_f32) main_arg0
  let main_v1 : FVec F S1x1024x16x128 .f32 := Host.absf main_v0
  let main_cst : FVec F S_ .f32 := constant S_ .f32 0x7F800000#32
  let main_v2 : FVec F S1x1024x16x128 .f32 := broadcastInDim S1x1024x16x128 ![] bcast_S_S1x1024x16x128 main_cst
  let main_v3 : IVec S1x1024x16x128 1 := cmpf .olt main_v1 main_v2
  let main_v4 : FVec F S1x1024x16x128 .f32 := (extf .f32 · bitsLt_bf16_f32) main_arg1
  let main_v5 : FVec F S1x1024x16x128 .f32 := Host.absf main_v4
  let main_cst_0 : FVec F S_ .f32 := constant S_ .f32 0x7F800000#32
  let main_v6 : FVec F S1x1024x16x128 .f32 := broadcastInDim S1x1024x16x128 ![] bcast_S_S1x1024x16x128 main_cst_0
  let main_v7 : IVec S1x1024x16x128 1 := cmpf .olt main_v5 main_v6
  let main_v8 : IVec S1x1024x16x128 1 := andi main_v3 main_v7
  main_v8
-- ==== Pre_finite_qk_ReferenceIdeal.lean ====
abbrev S1x4096x16x128 : Shape := ⟨4, ![1, 4096, 16, 128]⟩
abbrev S_ : Shape := ⟨0, ![]⟩

class Facts : Prop where
  bitsLt_bf16_f32 : FTy.bits .bf16 < FTy.bits .f32
  bcast_S_S1x4096x16x128 : S_.BroadcastsInDim S1x4096x16x128 (![] : Fin 0 → Fin S1x4096x16x128.rank)

variable [Facts]

def fn {F : FTy → Type} [FloatOps F] (main_arg0 : FVec F S1x4096x16x128 .bf16) (main_arg1 : FVec F S1x4096x16x128 .bf16) (main_arg2 : FVec F S1x4096x16x128 .bf16) : IVec S1x4096x16x128 1 :=
  let main_v0 : FVec F S1x4096x16x128 .f32 := (extf .f32 · bitsLt_bf16_f32) main_arg0
  let main_v1 : FVec F S1x4096x16x128 .f32 := Host.absf main_v0
  let main_cst : FVec F S_ .f32 := constant S_ .f32 0x7F800000#32
  let main_v2 : FVec F S1x4096x16x128 .f32 := broadcastInDim S1x4096x16x128 ![] bcast_S_S1x4096x16x128 main_cst
  let main_v3 : IVec S1x4096x16x128 1 := cmpf .olt main_v1 main_v2
  let main_v4 : FVec F S1x4096x16x128 .f32 := (extf .f32 · bitsLt_bf16_f32) main_arg1
  let main_v5 : FVec F S1x4096x16x128 .f32 := Host.absf main_v4
  let main_cst_0 : FVec F S_ .f32 := constant S_ .f32 0x7F800000#32
  let main_v6 : FVec F S1x4096x16x128 .f32 := broadcastInDim S1x4096x16x128 ![] bcast_S_S1x4096x16x128 main_cst_0
  let main_v7 : IVec S1x4096x16x128 1 := cmpf .olt main_v5 main_v6
  let main_v8 : IVec S1x4096x16x128 1 := andi main_v3 main_v7
  main_v8
-- ==== Kernel.lean ====
abbrev S1x1024x16x128 : Shape := ⟨4, ![1, 1024, 16, 128]⟩
abbrev S1024x16x128 : Shape := ⟨3, ![1024, 16, 128]⟩
abbrev S16x1024x128 : Shape := ⟨3, ![16, 1024, 128]⟩
abbrev S3x16x1024x128 : Shape := ⟨4, ![3, 16, 1024, 128]⟩
abbrev S3 : Shape := ⟨1, ![3]⟩
abbrev S_ : Shape := ⟨0, ![]⟩
abbrev S1 : Shape := ⟨1, ![1]⟩
abbrev S1x16x1024x128 : Shape := ⟨4, ![1, 16, 1024, 128]⟩
abbrev S1x1024x128 : Shape := ⟨3, ![1, 1024, 128]⟩
abbrev S1024x128 : Shape := ⟨2, ![1024, 128]⟩
abbrev S1x1x1024x128 : Shape := ⟨4, ![1, 1, 1024, 128]⟩
abbrev S4096x128 : Shape := ⟨2, ![4096, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 6
  | .smem => 0
  | _ => 0

abbrev bufTy : (tb : Table) → Fin (tcTables nBuf tb) → BufTy
  | .hbm, ⟨0, _⟩ => ⟨S1x1024x16x128, .bf16⟩
  | .hbm, ⟨1, _⟩ => ⟨S1x1024x16x128, .bf16⟩
  | .hbm, ⟨2, _⟩ => ⟨S1x1024x16x128, .bf16⟩
  | .hbm, ⟨3, _⟩ => ⟨S1024x16x128, .bf16⟩
  | .hbm, ⟨4, _⟩ => ⟨S16x1024x128, .bf16⟩
  | .hbm, ⟨5, _⟩ => ⟨S1024x16x128, .bf16⟩
  | .hbm, ⟨6, _⟩ => ⟨S16x1024x128, .bf16⟩
  | .hbm, ⟨7, _⟩ => ⟨S1024x16x128, .bf16⟩
  | .hbm, ⟨8, _⟩ => ⟨S16x1024x128, .bf16⟩
  | .hbm, ⟨9, _⟩ => ⟨S16x1024x128, .f32⟩
  | .hbm, ⟨10, _⟩ => ⟨S1024x16x128, .f32⟩
  | .hbm, ⟨11, _⟩ => ⟨S1x1024x16x128, .f32⟩
  | .local _ .vmem, ⟨0, _⟩ => ⟨S16x1024x128, .bf16⟩
  | .local _ .vmem, ⟨1, _⟩ => ⟨S16x1024x128, .bf16⟩
  | .local _ .vmem, ⟨2, _⟩ => ⟨S16x1024x128, .bf16⟩
  | .local _ .vmem, ⟨3, _⟩ => ⟨S16x1024x128, .f32⟩
  | .local _ .vmem, ⟨4, _⟩ => ⟨S3x16x1024x128, .bf16⟩
  | .local _ .vmem, ⟨5, _⟩ => ⟨S3x16x1024x128, .bf16⟩
  | _, _ => ⟨S1x1024x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v15 : BitVec 32 := Scalar.muli v2 c16_i32_8
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4 : BitVec 32 := 4#32
  let v11 : BitVec 32 := Scalar.addi v5 c4_i32_4
  let c1_i32_5 : BitVec 32 := 1#32
  let v12 : BitVec 32 := Scalar.subi v11 c1_i32_5
  let c4_i32_6 : BitVec 32 := 4#32
  let v13 : BitVec 32 := Scalar.remsi v12 c4_i32_6
  let c4_i32_9 : BitVec 32 := 4#32
  let v17 : BitVec 32 := Scalar.muli v13 c4_i32_9
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v19 : BitVec 32 := Scalar.muli v8 c1_i32_10
  let v20 : BitVec 32 := Scalar.addi v18 v19
  v20.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v21 : BitVec 32 := Scalar.muli v2 c16_i32_12
  let v22 : BitVec 32 := Scalar.addi c0_i32_13 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_14 : BitVec 32 := 4#32
  let v23 : BitVec 32 := Scalar.muli v10 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v25 : BitVec 32 := Scalar.muli v8 c1_i32_15
  let v26 : BitVec 32 := Scalar.addi v24 v25
  v26.toNat
def k0_dev3 (d0 : Dev nD) : Nat :=
  let c0_i32_21 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_20 : BitVec 32 := 16#32
  let v27 : BitVec 32 := Scalar.muli v2 c16_i32_20
  let v28 : BitVec 32 := Scalar.addi c0_i32_21 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_22 : BitVec 32 := 4#32
  let v29 : BitVec 32 := Scalar.muli v10 c4_i32_22
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v31 : BitVec 32 := Scalar.muli v8 c1_i32_23
  let v32 : BitVec 32 := Scalar.addi v30 v31
  v32.toNat
def k0_dev4 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_30 : BitVec 32 := 16#32
  let v39 : BitVec 32 := Scalar.muli v2 c16_i32_30
  let v40 : BitVec 32 := Scalar.addi c0_i32_31 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_32 : BitVec 32 := 4#32
  let v41 : BitVec 32 := Scalar.muli v10 c4_i32_32
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v43 : BitVec 32 := Scalar.muli v8 c1_i32_33
  let v44 : BitVec 32 := Scalar.addi v42 v43
  v44.toNat
def k0_dev5 (d0 : Dev nD) : Nat :=
  let c0_i32_76 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_75 : BitVec 32 := 16#32
  let v79 : BitVec 32 := Scalar.muli v2 c16_i32_75
  let v80 : BitVec 32 := Scalar.addi c0_i32_76 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_77 : BitVec 32 := 4#32
  let v81 : BitVec 32 := Scalar.muli v10 c4_i32_77
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v83 : BitVec 32 := Scalar.muli v8 c1_i32_78
  let v84 : BitVec 32 := Scalar.addi v82 v83
  v84.toNat
def k0_dev6 (d0 : Dev nD) : Nat :=
  let c0_i32_90 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_89 : BitVec 32 := 16#32
  let v93 : BitVec 32 := Scalar.muli v2 c16_i32_89
  let v94 : BitVec 32 := Scalar.addi c0_i32_90 v93
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_91 : BitVec 32 := 4#32
  let v95 : BitVec 32 := Scalar.muli v10 c4_i32_91
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v97 : BitVec 32 := Scalar.muli v8 c1_i32_92
  let v98 : BitVec 32 := Scalar.addi v96 v97
  v98.toNat
def k0_dev7 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v143 : BitVec 32 := Scalar.muli v2 c16_i32_153
  let v144 : BitVec 32 := Scalar.addi c0_i32_154 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_155 : BitVec 32 := 4#32
  let v145 : BitVec 32 := Scalar.muli v10 c4_i32_155
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v147 : BitVec 32 := Scalar.muli v8 c1_i32_156
  let v148 : BitVec 32 := Scalar.addi v146 v147
  v148.toNat
def k0_dev8 (d0 : Dev nD) : Nat :=
  let c0_i32_168 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_167 : BitVec 32 := 16#32
  let v157 : BitVec 32 := Scalar.muli v2 c16_i32_167
  let v158 : BitVec 32 := Scalar.addi c0_i32_168 v157
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let v10 : BitVec 32 := Scalar.remsi v9 c4_i32_3
  let c4_i32_169 : BitVec 32 := 4#32
  let v159 : BitVec 32 := Scalar.muli v10 c4_i32_169
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v161 : BitVec 32 := Scalar.muli v8 c1_i32_170
  let v162 : BitVec 32 := Scalar.addi v160 v161
  v162.toNat
@[reducible] def k0_t1_loop : Scf.Loop 32 :=
  let c0_i32_227 : BitVec 32 := 0#32
  let c16_i32_228 : BitVec 32 := 16#32
  let v207 : BitVec 32 := Scalar.addi c0_i32_227 c16_i32_228
  let c1_i32_229 : BitVec 32 := 1#32
  ⟨c0_i32_227, v207, c1_i32_229⟩
def k0_off1 (k0_t1 : Fin k0_t1_loop.trips) : Fin 3 → Nat :=
  let c0_i32_227 : BitVec 32 := 0#32
  let c1_i32_229 : BitVec 32 := 1#32
  let arg10 : BitVec 32 := Scf.iv c0_i32_227 c1_i32_229 k0_t1
  let v208 : Index := Scalar.indexCast arg10
  let c0 : Index := 0#32
  let c0_231 : Index := 0#32
  ![v208.toNat, 0, 0]
def k0_off2 (k0_t1 : Fin k0_t1_loop.trips) : Fin 4 → Nat :=
  let c0_232 : Index := 0#32
  let c0_i32_227 : BitVec 32 := 0#32
  let c1_i32_229 : BitVec 32 := 1#32
  let arg10 : BitVec 32 := Scf.iv c0_i32_227 c1_i32_229 k0_t1
  let v211 : Index := Scalar.indexCast arg10
  let c0_233 : Index := 0#32
  let c0_234 : Index := 0#32
  ![0, v211.toNat, 0, 0]
def k0_off3 (k0_t1 : Fin k0_t1_loop.trips) : Fin 4 → Nat :=
  let c1 : Index := 1#32
  let c0_i32_227 : BitVec 32 := 0#32
  let c1_i32_229 : BitVec 32 := 1#32
  let arg10 : BitVec 32 := Scf.iv c0_i32_227 c1_i32_229 k0_t1
  let v214 : Index := Scalar.indexCast arg10
  let c0_235 : Index := 0#32
  let c0_236 : Index := 0#32
  ![1, v214.toNat, 0, 0]
def k0_off4 (k0_t1 : Fin k0_t1_loop.trips) : Fin 4 → Nat :=
  let c2 : Index := 2#32
  let c0_i32_227 : BitVec 32 := 0#32
  let c1_i32_229 : BitVec 32 := 1#32
  let arg10 : BitVec 32 := Scf.iv c0_i32_227 c1_i32_229 k0_t1
  let v217 : Index := Scalar.indexCast arg10
  let c0_237 : Index := 0#32
  let c0_238 : Index := 0#32
  ![2, v217.toNat, 0, 0]
def k0_off5 (k0_t1 : Fin k0_t1_loop.trips) : Fin 3 → Nat :=
  let c0_i32_227 : BitVec 32 := 0#32
  let c1_i32_229 : BitVec 32 := 1#32
  let arg10 : BitVec 32 := Scf.iv c0_i32_227 c1_i32_229 k0_t1
  let v234 : Index := Scalar.indexCast arg10
  let c0_250 : Index := 0#32
  let c0_251 : Index := 0#32
  ![v234.toNat, 0, 0]
def k0_off6 (k0_t1 : Fin k0_t1_loop.trips) : Fin 3 → Nat :=
  let c0_i32_227 : BitVec 32 := 0#32
  let c1_i32_229 : BitVec 32 := 1#32
  let arg10 : BitVec 32 := Scf.iv c0_i32_227 c1_i32_229 k0_t1
  let v255 : Index := Scalar.indexCast arg10
  let c256 : Index := 256#32
  let c0_258 : Index := 0#32
  ![v255.toNat, 256, 0]
def k0_off7 (k0_t1 : Fin k0_t1_loop.trips) : Fin 3 → Nat :=
  let c0_i32_227 : BitVec 32 := 0#32
  let c1_i32_229 : BitVec 32 := 1#32
  let arg10 : BitVec 32 := Scf.iv c0_i32_227 c1_i32_229 k0_t1
  let v276 : Index := Scalar.indexCast arg10
  let c512 : Index := 512#32
  let c0_266 : Index := 0#32
  ![v276.toNat, 512, 0]
def k0_off8 (k0_t1 : Fin k0_t1_loop.trips) : Fin 3 → Nat :=
  let c0_i32_227 : BitVec 32 := 0#32
  let c1_i32_229 : BitVec 32 := 1#32
  let arg10 : BitVec 32 := Scf.iv c0_i32_227 c1_i32_229 k0_t1
  let v297 : Index := Scalar.indexCast arg10
  let c768 : Index := 768#32
  let c0_274 : Index := 0#32
  ![v297.toNat, 768, 0]
abbrev stage0_0 : Fin 1 → Memref sig .tc .vmem S16x1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x4096x16x128 : Shape := ⟨4, ![1, 4096, 16, 128]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩
abbrev S1x16x128x4096 : Shape := ⟨4, ![1, 16, 128, 4096]⟩

abbrev nBuf : Space → Nat
  | .hbm => 23
  | .vmem => 0
  | .smem => 0
  | _ => 0

abbrev bufTy : (tb : Table) → Fin (tcTables nBuf tb) → BufTy
  | .hbm, ⟨0, _⟩ => ⟨S1x4096x16x128, .bf16⟩
  | .hbm, ⟨1, _⟩ => ⟨S1x4096x16x128, .bf16⟩
  | .hbm, ⟨2, _⟩ => ⟨S1x4096x16x128, .bf16⟩
  | .hbm, ⟨3, _⟩ => ⟨S1x4096x16x128, .f32⟩
  | .hbm, ⟨4, _⟩ => ⟨S1x4096x16x128, .f32⟩
  | .hbm, ⟨5, _⟩ => ⟨S1x4096x16x128, .f32⟩
  | .hbm, ⟨6, _⟩ => ⟨S1x16x4096x4096, .f32⟩
  | .hbm, ⟨7, _⟩ => ⟨S_, .f32⟩
  | .hbm, ⟨8, _⟩ => ⟨S1x16x4096x4096, .f32⟩
  | .hbm, ⟨9, _⟩ => ⟨S1x16x4096x4096, .f32⟩
  | .hbm, ⟨10, _⟩ => ⟨S_, .f32⟩
  | .hbm, ⟨11, _⟩ => ⟨S1x16x4096, .f32⟩
  | .hbm, ⟨12, _⟩ => ⟨S1x16x4096x1, .f32⟩
  | .hbm, ⟨13, _⟩ => ⟨S1x16x4096x4096, .f32⟩
  | .hbm, ⟨14, _⟩ => ⟨S1x16x4096x4096, .f32⟩
  | .hbm, ⟨15, _⟩ => ⟨S1x16x4096x4096, .f32⟩
  | .hbm, ⟨16, _⟩ => ⟨S_, .f32⟩
  | .hbm, ⟨17, _⟩ => ⟨S1x16x4096, .f32⟩
  | .hbm, ⟨18, _⟩ => ⟨S1x16x4096x1, .f32⟩
  | .hbm, ⟨19, _⟩ => ⟨S1x16x4096x4096, .f32⟩
  | .hbm, ⟨20, _⟩ => ⟨S1x16x4096x4096, .f32⟩
  | .hbm, ⟨21, _⟩ => ⟨S1x16x128x4096, .f32⟩
  | .hbm, ⟨22, _⟩ => ⟨S1x4096x16x128, .f32⟩
  | _, _ => ⟨S1x4096x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.KernelIdeal.Ring.lean ====
/- The ring that the kernel passes its keys and values around: the neighbours, the memory references and
   semaphores of the six copies, what each copy carries, the schedule of the semaphore cells, what a device
   owes, and the levels that order the waits. -/
module

public import proofs.«01_k».proof.Proof.Gen.KernelIdeal.Frame
public import proofs.«01_k».proof.Proof.Gen.KernelIdeal.Skeleton

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline's copy (duties `Unit`) and the ring's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The neighbours along the mesh's second axis -/

set_option backward.proofsInPublic true in
/-- The device one step further along the ring. -/
def nxt (c : Dev nD) : Dev nD := ⟨16 * (c.val / 16) + 4 * ((((c.val / 4) % 4) + 1) % 4) + (c.val % 4), by have h : c.val < 32 := c.isLt; show _ < 32; omega⟩
set_option backward.proofsInPublic true in
/-- The device one step back. -/
def prv (c : Dev nD) : Dev nD := ⟨16 * (c.val / 16) + 4 * ((((c.val / 4) % 4) + 3) % 4) + (c.val % 4), by have h : c.val < 32 := c.isLt; show _ < 32; omega⟩

theorem prv_nxt (c : Dev nD) : prv (nxt c) = c := by revert c; decide
theorem nxt_prv (c : Dev nD) : nxt (prv c) = c := by revert c; decide

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

def ring : Dev nD ≃ Dev nD := ⟨nxt, prv, prv_nxt, nxt_prv⟩
def gnir : Dev nD ≃ Dev nD := ⟨prv, nxt, nxt_prv, prv_nxt⟩

/-! ## The memory references and semaphores of the six copies

Copy `2 * h + 0` moves keys and copy `2 * h + 1` moves values at hop `h`. -/

abbrev MRef : Type := Memref sig .tc .vmem S16x1024x128 .bf16

abbrev qM : MRef := Memref.whole cc0_stg0_0
abbrev kM : MRef := Memref.whole cc0_stg1_0
abbrev vM : MRef := Memref.whole cc0_stg2_0
abbrev oM : Memref sig .tc .vmem S16x1024x128 .f32 := Memref.whole cc0_stg3_0
abbrev ckM : Memref sig .tc .vmem S3x16x1024x128 .bf16 := Memref.whole cc0_scratch0
abbrev cvM : Memref sig .tc .vmem S3x16x1024x128 .bf16 := Memref.whole cc0_scratch1

abbrev slot0 (M : Memref sig .tc .vmem S3x16x1024x128 .bf16) : MRef :=
  (M.slice (Rect.unit (s := S3x16x1024x128) ![0, 0, 0, 0] S1x16x1024x128.size inb_S3x16x1024x128_S1x16x1024x128_0_0_0_0) (fun _ => rfl)).squeeze S16x1024x128 squeezes_S1x16x1024x128_S16x1024x128
abbrev slot1 (M : Memref sig .tc .vmem S3x16x1024x128 .bf16) : MRef :=
  (M.slice (Rect.unit (s := S3x16x1024x128) ![1, 0, 0, 0] S1x16x1024x128.size inb_S3x16x1024x128_S1x16x1024x128_1_0_0_0) (fun _ => rfl)).squeeze S16x1024x128 squeezes_S1x16x1024x128_S16x1024x128
abbrev slot2 (M : Memref sig .tc .vmem S3x16x1024x128 .bf16) : MRef :=
  (M.slice (Rect.unit (s := S3x16x1024x128) ![2, 0, 0, 0] S1x16x1024x128.size inb_S3x16x1024x128_S1x16x1024x128_2_0_0_0) (fun _ => rfl)).squeeze S16x1024x128 squeezes_S1x16x1024x128_S16x1024x128

/-- Where copy `i` lands. -/
def dstM : Fin 6 → MRef := fun
  | 0 => slot0 ckM | 1 => slot0 cvM | 2 => slot1 ckM | 3 => slot1 cvM | 4 => slot2 ckM | 5 => slot2 cvM
/-- What copy `i` reads: the device's own keys or values at hop 0, then what the hop before brought. -/
def srcM : Fin 6 → MRef := fun
  | 0 => kM | 1 => vM | 2 => slot0 ckM | 3 => slot0 cvM | 4 => slot1 ckM | 5 => slot1 cvM

abbrev barS : Sem sig := (SemArray.scalar (sig.barrier 0 rfl) : Sems sig S_).sem

abbrev sem0 (A : DmaSems sig S3) : DmaSem sig := ((A.slice (Rect.unit (s := S3) ![0] S1.size inb_S3_S1_0)).squeeze S_ squeezes_S1_S_).sem
abbrev sem1 (A : DmaSems sig S3) : DmaSem sig := ((A.slice (Rect.unit (s := S3) ![1] S1.size inb_S3_S1_1)).squeeze S_ squeezes_S1_S_).sem
abbrev sem2 (A : DmaSems sig S3) : DmaSem sig := ((A.slice (Rect.unit (s := S3) ![2] S1.size inb_S3_S1_2)).squeeze S_ squeezes_S1_S_).sem

/-- The semaphore that copy `i` credits at its source. -/
def sndS : Fin 6 → DmaSem sig := fun
  | 0 => sem0 cc0_scratch2 | 1 => sem0 cc0_scratch4 | 2 => sem1 cc0_scratch2 | 3 => sem1 cc0_scratch4 | 4 => sem2 cc0_scratch2 | 5 => sem2 cc0_scratch4
/-- The semaphore that copy `i` credits at its destination. -/
def rcvS : Fin 6 → DmaSem sig := fun
  | 0 => sem0 cc0_scratch3 | 1 => sem0 cc0_scratch5 | 2 => sem1 cc0_scratch3 | 3 => sem1 cc0_scratch5 | 4 => sem2 cc0_scratch3 | 5 => sem2 cc0_scratch5

/-- Which copy's semaphore this is, and at which end (`true` the destination's). -/
def role : SemLoc sig → Option (Bool × Fin 6) := fun
  | .reg _ => none
  | .dma s => match s.val with
    | 4 => some (false, 0) | 5 => some (false, 2) | 6 => some (false, 4)
    | 7 => some (true, 0) | 8 => some (true, 2) | 9 => some (true, 4)
    | 10 => some (false, 1) | 11 => some (false, 3) | 12 => some (false, 5)
    | 13 => some (true, 1) | 14 => some (true, 3) | 15 => some (true, 5)
    | _ => none

theorem role_snd (i : Fin 6) : role (.dma (sndS i)) = some (false, i) := by revert i; decide
theorem role_rcv (i : Fin 6) : role (.dma (rcvS i)) = some (true, i) := by revert i; decide
theorem role_bar : role (.reg barS) = none := rfl

abbrev barCell (c : Dev nD) : GSem nD τ sig := ((c : Thread nD τ), .reg barS)
abbrev sndCell (i : Fin 6) (c : Dev nD) : GSem nD τ sig := ((c : Thread nD τ), .dma (sndS i))
abbrev rcvCell (i : Fin 6) (c : Dev nD) : GSem nD τ sig := ((c : Thread nD τ), .dma (rcvS i))

/-- What one copy credits. -/
abbrev N : ℕ := (kM : MRef).view.dmaCredit
theorem N_pos : 0 < N := View.dmaCredit_pos _ (by decide)
theorem dst_credit (i : Fin 6) : (dstM i).view.dmaCredit = N := by fin_cases i <;> rfl
theorem src_credit (i : Fin 6) : (srcM i).view.dmaCredit = N := by fin_cases i <;> rfl
theorem dst_hsc (i : Fin 6) : (dstM i).view.ref.isScScratch = false := by fin_cases i <;> rfl
theorem src_exact (i : Fin 6) : (srcM i).view.WordExact := by
  fin_cases i
  · exact (Memref.isWhole_whole cc0_stg1_0).wordExact
  · exact (Memref.isWhole_whole cc0_stg2_0).wordExact
  · exact (((Memref.isWhole_whole cc0_scratch0).wordExact_slice rfl _ wordsbf16_S3x16x1024x128_S1x16x1024x128_0_0_0_0).reshape _ _)
  · exact (((Memref.isWhole_whole cc0_scratch1).wordExact_slice rfl _ wordsbf16_S3x16x1024x128_S1x16x1024x128_0_0_0_0).reshape _ _)
  · exact (((Memref.isWhole_whole cc0_scratch0).wordExact_slice rfl _ wordsbf16_S3x16x1024x128_S1x16x1024x128_1_0_0_0).reshape _ _)
  · exact (((Memref.isWhole_whole cc0_scratch1).wordExact_slice rfl _ wordsbf16_S3x16x1024x128_S1x16x1024x128_1_0_0_0).reshape _ _)
theorem dst_exact (i : Fin 6) : (dstM i).view.WordExact := by
  fin_cases i
  · exact (((Memref.isWhole_whole cc0_scratch0).wordExact_slice rfl _ wordsbf16_S3x16x1024x128_S1x16x1024x128_0_0_0_0).reshape _ _)
  · exact (((Memref.isWhole_whole cc0_scratch1).wordExact_slice rfl _ wordsbf16_S3x16x1024x128_S1x16x1024x128_0_0_0_0).reshape _ _)
  · exact (((Memref.isWhole_whole cc0_scratch0).wordExact_slice rfl _ wordsbf16_S3x16x1024x128_S1x16x1024x128_1_0_0_0).reshape _ _)
  · exact (((Memref.isWhole_whole cc0_scratch1).wordExact_slice rfl _ wordsbf16_S3x16x1024x128_S1x16x1024x128_1_0_0_0).reshape _ _)
  · exact (((Memref.isWhole_whole cc0_scratch0).wordExact_slice rfl _ wordsbf16_S3x16x1024x128_S1x16x1024x128_2_0_0_0).reshape _ _)
  · exact (((Memref.isWhole_whole cc0_scratch1).wordExact_slice rfl _ wordsbf16_S3x16x1024x128_S1x16x1024x128_2_0_0_0).reshape _ _)

/-! ## What the memory references hold -/

abbrev Blk (F : FTy → Type) : Type := S16x1024x128.Idx → Elt F .bf16

/-- Device `c`'s queries, keys and values, as its staging buffers hold them. -/
def QB (c : Dev nD) : Blk F := iblk m c 0 t0_0
def KB (c : Dev nD) : Blk F := iblk m c 1 t0_0
def VB (c : Dev nD) : Blk F := iblk m c 2 t0_0

/-- What copy `i` carries away from device `c`. -/
def srcX : Fin 6 → Dev nD → Blk F := fun
  | 0 => fun c => KB m c | 1 => fun c => VB m c
  | 2 => fun c => KB m (prv c) | 3 => fun c => VB m (prv c)
  | 4 => fun c => KB m (prv (prv c)) | 5 => fun c => VB m (prv (prv c))
/-- What copy `i` brings to device `c`. -/
def dstX (i : Fin 6) (c : Dev nD) : Blk F := srcX m i (prv c)

/-- Device `c`'s elements under `M`, whole, reading `X`. -/
def holds (M : MRef) (c : Dev nD) (X : Blk F) : sProp 𝕄 :=
  iprop((M.view.loc (c : Thread nD τ)) ↦[M.view.set]{fullShare} (M.view.write (Elt F) (m (M.view.loc (c : Thread nD τ))) X Finset.univ))

instance holds_storable (M : MRef) (c : Dev nD) (X : Blk F) : BI.Storable (upEmb : UEmb _ 𝕄) (holds m M c X) := by unfold holds; infer_instance

omit [FloatOps F] in
theorem write_congr_base (v : View sig .tc .vmem S16x1024x128 .bf16) (f g : v.ty.Contents (Elt F)) (X : Blk F) :
    ∀ i ∈ v.set, v.write (Elt F) f X Finset.univ i = v.write (Elt F) g X Finset.univ i := fun i hi => by
  obtain ⟨x, -, rfl⟩ := Finset.mem_map.mp hi
  rw [View.write_emb_of_mem _ _ (Finset.mem_univ x), View.write_emb_of_mem _ _ (Finset.mem_univ x)]

omit [FloatOps F] in
theorem write_read_on (v : View sig .tc .vmem S16x1024x128 .bf16) (f g : v.ty.Contents (Elt F)) :
    ∀ i ∈ v.set, f i = v.write (Elt F) g (v.read (Elt F) f) Finset.univ i := fun i hi => by
  obtain ⟨x, -, rfl⟩ := Finset.mem_map.mp hi
  rw [View.write_emb_of_mem _ _ (Finset.mem_univ x), View.read_apply, cast_cast, cast_eq]

omit [FloatOps F] in
/-- Elements held at any contents are held at what they read. -/
theorem holds_of (M : MRef) (c : Dev nD) (f : Buf (Elt F) (M.view.loc (c : Thread nD τ))) :
    (((M.view.loc (c : Thread nD τ)) ↦[M.view.set]{fullShare} f) : sProp 𝕄) = holds m M c (M.view.read (Elt F) f) :=
  pointsTo_congr (write_read_on M.view f _)

omit [FloatOps F] in
/-- What a transfer leaves. -/
theorem holds_landed (M M' : MRef) (c c' : Dev nD) (f : Buf (Elt F) (M.view.loc (c : Thread nD τ))) (X : Blk F) :
    (((M.view.loc (c : Thread nD τ)) ↦[M.view.set]{fullShare} (M.view.write (Elt F) f
        (M'.view.read (Elt F) (M'.view.write (Elt F) (m (M'.view.loc (c' : Thread nD τ))) X Finset.univ)) Finset.univ)) : sProp 𝕄) = holds m M c X := by
  rw [View.read_write_univ]
  exact pointsTo_congr (write_congr_base M.view f _ X)

/-- Device `c`'s elements under `M`, whole, at contents not chosen. -/
def free (M : MRef) (c : Dev nD) : sProp 𝕄 := iprop(∃ X : Blk F, holds m M c X)

instance free_storable (M : MRef) (c : Dev nD) : BI.Storable (upEmb : UEmb _ 𝕄) (free m M c) := by unfold free; infer_instance

abbrev srcPts (i : Fin 6) (c : Dev nD) : sProp 𝕄 := holds m (srcM i) c (srcX m i c)
abbrev dstPts (i : Fin 6) (c : Dev nD) : sProp 𝕄 := holds m (dstM i) c (dstX m i c)

/-! ## The schedule -/

/-- What the signal from `nxt c` hands device `c`: the six places on `nxt c` that `c` writes, and that the six cells
    its copies credit there are at their first round. -/
def barPay (c : Dev nD) : sProp 𝕄 :=
  bigSep Finset.univ fun i : Fin 6 => iprop(free m (dstM i) (nxt c) ∗ reached ER (rcvCell i (nxt c)) 0)

/-- What a copy hands over at each end. -/
def dmaPay (c : Dev nD) : Option (Bool × Fin 6) → sProp 𝕄
  | some (false, i) => srcPts m i c
  | some (true, i) => dstPts m i c
  | none => iprop(emp)

def sched : Rounds.Schedule (GSem nD τ sig) Bool 𝕄 where
  duties g r :=
    if r = 0 ∧ g.1.2 = .tc ∧ g.2 = .reg barS then Finset.univ
    else if r = 0 ∧ g.1.2 = .tc ∧ (role g.2).isSome then {true} else ∅
  unitless _ := False
  amount g _ _ := if g.2 = .reg barS then 1 else N
  payload g _ d :=
    if g.2 = .reg barS then (if d then barPay m g.1.1 else iprop(emp)) else dmaPay m g.1.1 (role g.2)
  amount_pos g _ _ _ := by
    by_cases h : g.2 = .reg barS
    · rw [if_pos h]; exact Nat.one_pos
    · rw [if_neg h]; exact N_pos

instance sched_payload_storable (g : GSem nD τ sig) (r : ℕ) (d : Bool) :
    BI.Storable (upEmb : UEmb _ 𝕄) ((sched m).payload g r d) := by
  show BI.Storable upEmb (if g.2 = .reg barS then (if d then barPay m g.1.1 else iprop(emp)) else dmaPay m g.1.1 (role g.2))
  unfold barPay dmaPay
  (repeat' split) <;> infer_instance

section Sched

variable (c : Dev nD) (i : Fin 6)

theorem dma_ne_bar (s : DmaSem sig) : (SemLoc.dma s : SemLoc sig) ≠ .reg barS := fun h => by cases h

theorem duties_bar : (sched m).duties (barCell c) 0 = Finset.univ := by dsimp only [sched]; exact if_pos ⟨rfl, rfl, rfl⟩
theorem duties_snd : (sched m).duties (sndCell i c) 0 = {true} := by
  dsimp only [sched]; rw [if_neg (fun h => dma_ne_bar _ h.2.2), if_pos ⟨rfl, rfl, by rw [role_snd]; rfl⟩]
theorem duties_rcv : (sched m).duties (rcvCell i c) 0 = {true} := by
  dsimp only [sched]; rw [if_neg (fun h => dma_ne_bar _ h.2.2), if_pos ⟨rfl, rfl, by rw [role_rcv]; rfl⟩]
theorem duties_later (g : GSem nD τ sig) : ∀ r, 1 ≤ r → (sched m).duties g r = ∅ :=
  fun r hr => by dsimp only [sched]; rw [if_neg (fun h => by omega), if_neg (fun h => by omega)]

theorem amount_bar (d : Bool) : (sched m).amount (barCell c) 0 d = 1 := by dsimp only [sched]; exact if_pos rfl
theorem amount_snd (d : Bool) : (sched m).amount (sndCell i c) 0 d = N := by dsimp only [sched]; exact if_neg (dma_ne_bar _)
theorem amount_rcv (d : Bool) : (sched m).amount (rcvCell i c) 0 d = N := by dsimp only [sched]; exact if_neg (dma_ne_bar _)

theorem expect_bar : (sched m).expect (barCell c) 0 = 2 := by
  unfold Schedule.expect Schedule.amountOf; rw [duties_bar, Finset.sum_congr rfl fun d _ => amount_bar m c d]; decide
theorem expect_snd : (sched m).expect (sndCell i c) 0 = N := by
  unfold Schedule.expect Schedule.amountOf; rw [duties_snd, Finset.sum_singleton, amount_snd]
theorem expect_rcv : (sched m).expect (rcvCell i c) 0 = N := by
  unfold Schedule.expect Schedule.amountOf; rw [duties_rcv, Finset.sum_singleton, amount_rcv]

theorem payload_bar_true : (sched m).payload (barCell c) 0 true = barPay m c := by
  dsimp only [sched]; rw [if_pos rfl, if_pos rfl]
theorem payload_bar_false : (sched m).payload (barCell c) 0 false = (iprop(emp) : sProp 𝕄) := by
  dsimp only [sched]; rw [if_pos rfl, if_neg (by decide)]
theorem payload_snd (d : Bool) : (sched m).payload (sndCell i c) 0 d = srcPts m i c := by
  dsimp only [sched]; rw [if_neg (dma_ne_bar _), role_snd]; rfl
theorem payload_rcv (d : Bool) : (sched m).payload (rcvCell i c) 0 d = dstPts m i c := by
  dsimp only [sched]; rw [if_neg (dma_ne_bar _), role_rcv]; rfl

theorem rest_bar : bigSep ((sched m).duties (barCell c) 0 \ ∅) (fun d => (sched m).payload (barCell c) 0 d) = iprop(emp ∗ barPay m c) := by
  rw [Finset.sdiff_empty, duties_bar, show (Finset.univ : Finset Bool) = {false, true} from by decide, bigSep_insert (by decide), bigSep_singleton,
    payload_bar_true, payload_bar_false]
  rfl
theorem rest_snd : bigSep ((sched m).duties (sndCell i c) 0 \ ∅) (fun d => (sched m).payload (sndCell i c) 0 d) = srcPts m i c := by
  rw [Finset.sdiff_empty, duties_snd, bigSep_singleton, payload_snd]
theorem rest_rcv : bigSep ((sched m).duties (rcvCell i c) 0 \ ∅) (fun d => (sched m).payload (rcvCell i c) 0 d) = dstPts m i c := by
  rw [Finset.sdiff_empty, duties_rcv, bigSep_singleton, payload_rcv]

end Sched

/-! ## What a device owes, and the levels -/

/-- The credit of copies `j` and later, each owed to the next device's cell. -/
def rest (j : ℕ) (c : Dev nD) : CellTallies nD τ sig Unit :=
  ∑ i ∈ Finset.univ.filter (fun i : Fin 6 => j ≤ i.val), tallyAt (rcvCell i (nxt c)) () N

theorem rest_step (i : Fin 6) (c : Dev nD) : rest i.val c = rest (i.val + 1) c + tallyAt (rcvCell i (nxt c)) () N := by
  unfold rest
  rw [show Finset.univ.filter (fun k : Fin 6 => i.val ≤ k.val) = insert i (Finset.univ.filter fun k : Fin 6 => i.val + 1 ≤ k.val) from by
      ext k; simp only [Finset.mem_filter, Finset.mem_univ, true_and, Finset.mem_insert, Fin.ext_iff]; omega,
    Finset.sum_insert (by simp), add_comm]

theorem rest_six (c : Dev nD) : rest 6 c = 0 := by
  unfold rest
  rw [Finset.filter_false_of_mem (fun i _ => by omega), Finset.sum_empty]

theorem rest_pos {j : ℕ} {c : Dev nD} {g : GSem nD τ sig} {u : Unit} (h : 0 < rest j c g u) : ∃ i : Fin 6, j ≤ i.val ∧ g = rcvCell i (nxt c) := by
  unfold rest at h
  rw [Finset.sum_apply, Finsupp.finset_sum_apply] at h
  obtain ⟨i, hi, hp⟩ := Finset.exists_ne_zero_of_sum_ne_zero (Nat.pos_iff_ne_zero.mp h)
  refine ⟨i, (Finset.mem_filter.mp hi).2, ?_⟩
  rw [tallyAt_apply] at hp
  by_contra hne
  exact hp (if_neg fun h => hne h.1)

/-- What a device owes at launch: its six copies, its unit to the next device's barrier, its unit to the previous one's. -/
def O₀ (c : Dev nD) : CellTallies nD τ sig Unit := (rest 0 c + tallyAt (barCell (nxt c)) () 1) + tallyAt (barCell (prv c)) () 1

def L (g : GSem nD τ sig) : Finset Unit := if g.1.2 = .tc then {()} else ∅
/-- The barrier is below every landing, the landings in the order of the hops, all else at the bottom. -/
def lv (g : GSem nD τ sig) (_ : Unit) : ℕ :=
  if g.2 = .reg barS then 1 else match role g.2 with
    | some (true, i) => 2 + i.val
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_snd (i : Fin 6) (c : Dev nD) (u : Unit) : lv (sndCell i c) u = 0 := by
  dsimp only [lv]; rw [if_neg (dma_ne_bar _), role_snd]
theorem lv_rcv (i : Fin 6) (c : Dev nD) (u : Unit) : lv (rcvCell i c) u = 2 + i.val := by
  dsimp only [lv]; rw [if_neg (dma_ne_bar _), role_rcv]

/-- A device that owes only the copies `j` and later may wait on any cell below them. -/
theorem mayWait (c : Dev nD) (sm : SemLoc sig) (j : ℕ) (h : lv ((c : Thread nD τ), sm) () ≤ 1 + j) :
    (levAts L lv : sProp 𝕄) ⊢ MayWait (c : Thread nD τ) sm () (rest j c) :=
  MayOwe.of_cut (L := L) (lev := lv) (1 + j) (fun p hp => by rw [Finset.mem_singleton.mp hp, L_tc]; exact Finset.mem_singleton_self _)
    (fun g u hg => by obtain ⟨i, -, rfl⟩ := rest_pos hg; rw [L_tc]; exact Finset.mem_singleton_self _)
    (fun p hp => by rw [Finset.mem_singleton.mp hp]; exact h)
    (fun g u hg => by obtain ⟨i, hi, rfl⟩ := rest_pos hg; rw [lv_rcv]; omega)

end Cert.KernelIdeal.Own

end
-- ==== Proof.KernelIdeal.Hop.lean ====
/- One hop of the ring at a symbolic device: the two copies a hop starts and the four waits that end it. -/
module

public import proofs.«01_k».proof.Proof.KernelIdeal.Ring

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The twelve copy semaphores: copy `i`'s at its source (`false`) and at its destination (`true`). -/
abbrev osem (k : Bool × Fin 6) : SemLoc sig := .dma (bif k.1 then rcvS k.2 else sndS k.2)
abbrev ownCell (c : Dev nD) (k : Bool × Fin 6) : GSem nD τ sig := ((c : Thread nD τ), osem k)

/-! ## What every device may consult -/

/-- Every cell's invariant, under one map of names, and that each barrier cell is at its first round. -/
def invs (K : GSem nD τ sig → ℕ) : sProp 𝕄 :=
  iprop((bigSep Finset.univ fun c : Dev nD => cellInv ER (sched m) (K (barCell c)) (barCell c))
    ∗ (bigSep Finset.univ fun p : Dev nD × (Bool × Fin 6) => cellInv ER (sched m) (K (ownCell p.1 p.2)) (ownCell p.1 p.2))
    ∗ bigSep Finset.univ fun c : Dev nD => reached ER (barCell c) 0)

instance invs_persistent (K : GSem nD τ sig → ℕ) : BI.Persistent (invs m K) := by unfold invs; infer_instance

variable (K : GSem nD τ sig → ℕ) (c : Dev nD) (i : Fin 6)

theorem all_at {T : Type} [Fintype T] [DecidableEq T] (Φ : T → sProp 𝕄) (t : T) : bigSep Finset.univ Φ ⊢ Φ t := bigSep_elim (Finset.mem_univ t)

theorem inv_bar : invs m K ⊢ cellInv ER (sched m) (K (barCell c)) (barCell c) := by
  unfold invs
  iintro ⟨#H, -, -⟩
  iapply (all_at (fun c : Dev nD => (cellInv ER (sched m) (K (barCell c)) (barCell c) : sProp 𝕄)) c)
  iexact H
theorem inv_own (k : Bool × Fin 6) : invs m K ⊢ cellInv ER (sched m) (K (ownCell c k)) (ownCell c k) := by
  unfold invs
  iintro ⟨-, #H, -⟩
  iapply (all_at (fun p : Dev nD × (Bool × Fin 6) => (cellInv ER (sched m) (K (ownCell p.1 p.2)) (ownCell p.1 p.2) : sProp 𝕄)) (c, k))
  iexact H
theorem bar_reached : invs m K ⊢ reached ER (barCell c) 0 := by
  unfold invs
  iintro ⟨-, -, #H⟩
  iapply (all_at (fun c : Dev nD => (reached ER (barCell c) 0 : sProp 𝕄)) c)
  iexact H
theorem inv_snd : invs m K ⊢ cellInv ER (sched m) (K (sndCell i c)) (sndCell i c) := inv_own m K c (false, i)
theorem inv_rcv : invs m K ⊢ cellInv ER (sched m) (K (rcvCell i c)) (rcvCell i c) := inv_own m K c (true, i)

/-! ## One copy and its two waits -/

/-- What device `c` holds for copy `i` before it starts it. -/
def pend : sProp 𝕄 :=
  iprop(atPos ER (sndCell i c) 0 ∅ 0 ∗ atPos ER (rcvCell i c) 0 ∅ 0 ∗ reached ER (sndCell i c) 0
    ∗ dutyTok ER (sndCell i c) 0 true ∗ dutyTok ER (rcvCell i (nxt c)) 0 true ∗ cred (tallyAt (rcvCell i c) () N))
/-- And once both its waits are over. -/
def over : sProp 𝕄 := iprop(atPos ER (sndCell i c) (0 + 1) ∅ 0 ∗ atPos ER (rcvCell i c) (0 + 1) ∅ 0)

/-- Copy `i` is started: the sender hands over its source and the place on the next device, and owes one copy less. -/
theorem send_step (n : Dev nD) (hn : n = nxt c) (W : Waits sig Unit) {hsc : (dstM i).view.ref.isScScratch = false}
    {hsrc : (srcM i).view.WordExact} {hdst : (dstM i).view.WordExact} {hsem}
    {k : PUnit → Prog (TpuEff nD τ sig (Elt F) Λ₀ .tc) PUnit} {Q : PUnit → sProp 𝕄} :
    iprop(invs m K ∗ srcPts m i c ∗ free m (dstM i) (nxt c) ∗ owes (c : Thread nD τ) (rest i.val c) W
        ∗ dutyTok ER (sndCell i c) 0 true ∗ reached ER (sndCell i c) 0 ∗ dutyTok ER (rcvCell i (nxt c)) 0 true ∗ reached ER (rcvCell i (nxt c)) 0)
      ⊢ iprop(((cred (tallyAt (sndCell i c) () N) ∗ owes (c : Thread nD τ) (rest (i.val + 1) c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM i) (.remote (Dev.tc n : Thread nD τ) (dstM i) (.dma (sndS i)) hsc) (.dma (rcvS i)) hsrc hdst hsem) k) Q) := by
  subst hn
  unfold free srcPts holds
  iintro ⟨#HI, Hsrc, ⟨%Y, Hdst⟩, HO, HtS, #HrS, HtR, #HrR⟩ Hk
  iapply (Rounds.wp_send_pointsTo 𝒱₀ ER (sched m) (c : Thread nD τ) none (c' := (nxt c : Thread nD τ)) (src := srcM i) (dst := dstM i)
      (sS := .dma (sndS i)) (sem := .dma (rcvS i)) (q := fullShare)
      (fs := (srcM i).view.write (Elt F) (m ((srcM i).view.loc (c : Thread nD τ))) (srcX m i c) Finset.univ)
      (fd := (dstM i).view.write (Elt F) (m ((dstM i).view.loc (nxt c : Thread nD τ))) Y Finset.univ)
      (κ₁ := K (sndCell i c)) (κ₂ := K (rcvCell i (nxt c))) (r₁ := 0) (r₂ := 0) (d₁ := true) (d₂ := true)
      (by rw [duties_snd]; exact Finset.mem_singleton_self _) (by rw [duties_rcv]; exact Finset.mem_singleton_self _)
      () () N (dst_credit i) (amount_snd m c i true) (amount_rcv m (nxt c) i true) (rest (i.val + 1) c) (rest_step i c) (W := W)
      (by rw [payload_snd]; exact BI.Entails.refl _)
      (by rw [payload_rcv]; refine (Entails.of_eq (holds_landed m (dstM i) (srcM i) (nxt c) c _ _)).trans ?_
          unfold dstPts dstX; rw [prv_nxt])) $$ [Hsrc Hdst HO HtS HtR]
  · isplitr; · iapply (inv_snd m K c i); iexact HI
    isplitr; · iapply (inv_rcv m K (nxt c) i); iexact HI
    isplitl [Hsrc]; · iexact Hsrc
    isplitl [Hdst]; · iexact Hdst
    isplitl [HO]; · iexact HO
    isplitl [HtS]; · iexact HtS
    isplitr; · iexact HrS
    isplitl [HtR]; · iexact HtR
    iexact HrR
  iexact Hk

/-- The wait that ends copy `i` at its source: the source comes back. -/
theorem snd_step (j : ℕ) (W : Waits sig Unit) {sp : Space} {s : Shape} {e : EltTy} {src : Memref sig .tc sp s e} {dst : MRef}
    {hsrc : src.view.WordExact} {hdst : dst.view.WordExact} (hc : dst.view.dmaCredit = N)
    {k : PUnit → Prog (TpuEff nD τ sig (Elt F) Λ₀ .tc) PUnit} {Q : PUnit → sProp 𝕄} :
    iprop(invs m K ∗ levAts L lv ∗ cred (tallyAt (sndCell i c) () N) ∗ owes (c : Thread nD τ) (rest j c) W ∗ atPos ER (sndCell i c) 0 ∅ 0)
      ⊢ iprop(((owes (c : Thread nD τ) (rest j c) (insert (SemLoc.dma (sndS i), ()) W) ∗ atPos ER (sndCell i c) (0 + 1) ∅ 0 ∗ srcPts m i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sndS i) src dst hsrc hdst) k) Q) := by
  iintro ⟨#HI, #Hlev, Hc, HO, Hat⟩ Hk
  iapply (Rounds.wp_wait_rest_token 𝒱₀ ER (sched m) (c : Thread nD τ) none (κ := K (sndCell i c))
      (wpE_waitDma2_eq 𝒱₀ (c : Thread nD τ) none Set.univ) (Set.mem_univ _) () (O := rest j c) (W := W) (R := 0) (m := 0) (T := ∅)
      (by rw [expect_snd, hc, Nat.zero_add])) $$ [Hc HO Hat]
  · isplitr; · iapply (inv_snd m K c i); iexact HI
    isplitl [Hc]; · rw [hc]; iexact Hc
    isplitl [HO]; · iexact HO
    isplitr; · iapply (mayWait c (.dma (sndS i)) j (by rw [lv_snd]; omega)); iexact Hlev
    iexact Hat
  iintro ⟨HO, Hat, -, Hpay⟩
  iapply Hk
  isplitl [HO]; · iexact HO
  isplitl [Hat]; · iexact Hat
  iapply (Entails.of_eq (rest_snd m c i)) $$ Hpay

/-- The wait for what copy `i` of the previous device brings. -/
theorem rcv_step (j : ℕ) (hj : i.val + 1 ≤ j) (W : Waits sig Unit) {sp : Space} {s : Shape} {e : EltTy} {src : Memref sig .tc sp s e} {dst : MRef}
    {hsrc : src.view.WordExact} {hdst : dst.view.WordExact} (hc : dst.view.dmaCredit = N)
    {k : PUnit → Prog (TpuEff nD τ sig (Elt F) Λ₀ .tc) PUnit} {Q : PUnit → sProp 𝕄} :
    iprop(invs m K ∗ levAts L lv ∗ cred (tallyAt (rcvCell i c) () N) ∗ owes (c : Thread nD τ) (rest j c) W ∗ atPos ER (rcvCell i c) 0 ∅ 0)
      ⊢ iprop(((owes (c : Thread nD τ) (rest j c) (insert (SemLoc.dma (rcvS i), ()) W) ∗ atPos ER (rcvCell i c) (0 + 1) ∅ 0 ∗ dstPts m i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rcvS i) src dst hsrc hdst) k) Q) := by
  iintro ⟨#HI, #Hlev, Hc, HO, Hat⟩ Hk
  iapply (Rounds.wp_wait_rest_token 𝒱₀ ER (sched m) (c : Thread nD τ) none (κ := K (rcvCell i c))
      (wpE_waitDma2_eq 𝒱₀ (c : Thread nD τ) none Set.univ) (Set.mem_univ _) () (O := rest j c) (W := W) (R := 0) (m := 0) (T := ∅)
      (by rw [expect_rcv, hc, Nat.zero_add])) $$ [Hc HO Hat]
  · isplitr; · iapply (inv_rcv m K c i); iexact HI
    isplitl [Hc]; · rw [hc]; iexact Hc
    isplitl [HO]; · iexact HO
    isplitr; · iapply (mayWait c (.dma (rcvS i)) j (by rw [lv_rcv]; omega)); iexact Hlev
    iexact Hat
  iintro ⟨HO, Hat, -, Hpay⟩
  iapply Hk
  isplitl [HO]; · iexact HO
  isplitl [Hat]; · iexact Hat
  iapply (Entails.of_eq (rest_rcv m c i)) $$ Hpay

/-! ## A hop -/

/-- The six effects of a hop whose copies are `i` (keys) and `j` (values), to the device `n`, then `k`. -/
def hopProg (i j : Fin 6) (n n' : Dev nD)
    (k : Prog (TpuEff nD τ sig (Elt F) Λ₀ .tc) PUnit) : Prog (TpuEff nD τ sig (Elt F) Λ₀ .tc) PUnit :=
  .op (.enqueueDma (srcM i) (.remote (Dev.tc n : Thread nD τ) (dstM i) (.dma (sndS i)) (dst_hsc i)) (.dma (rcvS i)) (src_exact i) (dst_exact i) ⟨⟨rfl, Or.inl rfl⟩, trivial⟩) fun _ =>
  .op (.enqueueDma (srcM j) (.remote (Dev.tc n' : Thread nD τ) (dstM j) (.dma (sndS j)) (dst_hsc j)) (.dma (rcvS j)) (src_exact j) (dst_exact j) ⟨⟨rfl, Or.inl rfl⟩, trivial⟩) fun _ =>
  .op (.waitDma2 (sndS i) (dstM i) (srcM i) (dst_exact i) (src_exact i)) fun _ =>
  .op (.waitDma2 (rcvS i) (srcM i) (dstM i) (src_exact i) (dst_exact i)) fun _ =>
  .op (.waitDma2 (sndS j) (dstM j) (srcM j) (dst_exact j) (src_exact j)) fun _ =>
  .op (.waitDma2 (rcvS j) (srcM j) (dstM j) (src_exact j) (dst_exact j)) fun _ => k

/-- A hop: it takes its two sources and the two places on the next device, and ends with the sources back and what the
    previous device sent in place. -/
theorem hop_step (i j : Fin 6) (hij : j.val = i.val + 1) (n n' : Dev nD) (hn : n = nxt c) (hn' : n' = nxt c) (W : Waits sig Unit)
    {k : Prog (TpuEff nD τ sig (Elt F) Λ₀ .tc) PUnit} {Q : PUnit → sProp 𝕄} :
    iprop(invs m K ∗ levAts L lv ∗ pend c i ∗ pend c j ∗ (free m (dstM i) (nxt c) ∗ reached ER (rcvCell i (nxt c)) 0)
        ∗ (free m (dstM j) (nxt c) ∗ reached ER (rcvCell j (nxt c)) 0) ∗ srcPts m i c ∗ srcPts m j c ∗ owes (c : Thread nD τ) (rest i.val c) W)
      ⊢ iprop(((over c i ∗ over c j ∗ srcPts m i c ∗ srcPts m j c ∗ dstPts m i c ∗ dstPts m j c
            ∗ ∃ W', owes (c : Thread nD τ) (rest (i.val + 2) c) W')
            -∗ wp frame (wpE (defs₀ (F := F)) 𝒱₀ (c : Thread nD τ) none) Set.univ k Q)
          -∗ wp frame (wpE (defs₀ (F := F)) 𝒱₀ (c : Thread nD τ) none) Set.univ (hopProg i j n n' k) Q) := by
  unfold hopProg pend over
  iintro ⟨#HI, #Hlev, ⟨Hs, Hr, #HrS, HtS, HtR, Hc⟩, ⟨Hs', Hr', #HrS', HtS', HtR', Hc'⟩, ⟨Hf, #HrN⟩, ⟨Hf', #HrN'⟩, Hx, Hx', HO⟩ Hk
  iapply (send_step m K c i n hn W) $$ [Hx Hf HO HtS HtR]
  · isplitr; · iexact HI
    isplitl [Hx]; · iexact Hx
    isplitl [Hf]; · iexact Hf
    isplitl [HO]; · iexact HO
    isplitl [HtS]; · iexact HtS
    isplitr; · iexact HrS
    isplitl [HtR]; · iexact HtR
    iexact HrN
  iintro ⟨HcS, HO⟩
  iapply (send_step m K c j n' hn' W) $$ [Hx' Hf' HO HtS' HtR']
  · isplitr; · iexact HI
    isplitl [Hx']; · iexact Hx'
    isplitl [Hf']; · iexact Hf'
    isplitl [HO]; · rw [hij]; iexact HO
    isplitl [HtS']; · iexact HtS'
    isplitr; · iexact HrS'
    isplitl [HtR']; · iexact HtR'
    iexact HrN'
  iintro ⟨HcS', HO⟩
  iapply (snd_step m K c i (j.val + 1) W (src_credit i)) $$ [HcS HO Hs]
  · isplitr; · iexact HI
    isplitr; · iexact Hlev
    isplitl [HcS]; · iexact HcS
    isplitl [HO]; · iexact HO
    iexact Hs
  iintro ⟨HO, Hs, Hx⟩
  iapply (rcv_step m K c i (j.val + 1) (by omega) _ (dst_credit i)) $$ [Hc HO Hr]
  · isplitr; · iexact HI
    isplitr; · iexact Hlev
    isplitl [Hc]; · iexact Hc
    isplitl [HO]; · iexact HO
    iexact Hr
  iintro ⟨HO, Hr, Hy⟩
  iapply (snd_step m K c j (j.val + 1) _ (src_credit j)) $$ [HcS' HO Hs']
  · isplitr; · iexact HI
    isplitr; · iexact Hlev
    isplitl [HcS']; · iexact HcS'
    isplitl [HO]; · iexact HO
    iexact Hs'
  iintro ⟨HO, Hs', Hx'⟩
  iapply (rcv_step m K c j (j.val + 1) (by omega) _ (dst_credit j)) $$ [Hc' HO Hr']
  · isplitr; · iexact HI
    isplitr; · iexact Hlev
    isplitl [Hc']; · iexact Hc'
    isplitl [HO]; · iexact HO
    iexact Hr'
  iintro ⟨HO, Hr', Hy'⟩
  iapply Hk
  isplitl [Hs Hr]; · isplitl [Hs] <;> iassumption
  isplitl [Hs' Hr']; · isplitl [Hs'] <;> iassumption
  isplitl [Hx]; · iexact Hx
  isplitl [Hx']; · iexact Hx'
  isplitl [Hy]; · iexact Hy
  isplitl [Hy']; · iexact Hy'
  iexists _
  rw [show i.val + 2 = j.val + 1 by omega]
  iexact HO

end Cert.KernelIdeal.Own

end
-- ==== Proof.KernelIdeal.Loop.lean ====
/- The loop over the sixteen heads: what one trip stores, as a function of what the buffers hold, and the loop's
   invariant with the output's contents stated exactly on the heads done. -/
module

public import proofs.«01_k».proof.Proof.KernelIdeal.Ring
public import proofs.«01_k».proof.Proof.Gen.KernelIdeal.Loops
public import Idealize.ShloMosaic.Lib.WritesUnit
public import Idealize.ShloMosaic.Lib.ValueIdx

@[expose] public section

set_option maxRecDepth 8192
set_option maxHeartbeats 4000000

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The contents of a stack of three landed blocks. -/
abbrev Stk (F : FTy → Type) : Type := S3x16x1024x128.Idx → Elt F .bf16
abbrev Out (F : FTy → Type) : Type := S16x1024x128.Idx → Elt F .f32

variable (X0 X1 X2 : Blk F) (X4 X5 : Stk F)

theorem trips_eq : k0_t1_loop.trips = 16 := by decide +kernel

/-- Head `k`'s keys: the device's own, then the three that came round. -/
def keysAt (k : Fin k0_t1_loop.trips) : FVec F S4096x128 .bf16 :=
  k0_pay3 (kM.view.readAt (Elt F) (Rect.unit (s := S16x1024x128) (k0_off1 k) S1x1024x128.size (k0_off1_inb k)).toLoadRect X1)
    (ckM.view.readAt (Elt F) (Rect.unit (s := S3x16x1024x128) (k0_off2 k) S1x1x1024x128.size (k0_off2_inb k)).toLoadRect X4)
    (ckM.view.readAt (Elt F) (Rect.unit (s := S3x16x1024x128) (k0_off3 k) S1x1x1024x128.size (k0_off3_inb k)).toLoadRect X4)
    (ckM.view.readAt (Elt F) (Rect.unit (s := S3x16x1024x128) (k0_off4 k) S1x1x1024x128.size (k0_off4_inb k)).toLoadRect X4)

/-- Head `k`'s values, in the same order. -/
def valsAt (k : Fin k0_t1_loop.trips) : FVec F S4096x128 .bf16 :=
  k0_pay4 (vM.view.readAt (Elt F) (Rect.unit (s := S16x1024x128) (k0_off1 k) S1x1024x128.size (k0_off1_inb k)).toLoadRect X2)
    (cvM.view.readAt (Elt F) (Rect.unit (s := S3x16x1024x128) (k0_off2 k) S1x1x1024x128.size (k0_off2_inb k)).toLoadRect X5)
    (cvM.view.readAt (Elt F) (Rect.unit (s := S3x16x1024x128) (k0_off3 k) S1x1x1024x128.size (k0_off3_inb k)).toLoadRect X5)
    (cvM.view.readAt (Elt F) (Rect.unit (s := S3x16x1024x128) (k0_off4 k) S1x1x1024x128.size (k0_off4_inb k)).toLoadRect X5)

/-- Head `k`'s queries, the rows of block `b`. -/
def rowsAt (k : Fin k0_t1_loop.trips) : Fin 4 → Vec F S1x256x128 .bf16 := fun
  | 0 => qM.view.readAt (Elt F) (Rect.unit (s := S16x1024x128) (k0_off5 k) S1x256x128.size (k0_off5_inb k)).toLoadRect X0
  | 1 => qM.view.readAt (Elt F) (Rect.unit (s := S16x1024x128) (k0_off6 k) S1x256x128.size (k0_off6_inb k)).toLoadRect X0
  | 2 => qM.view.readAt (Elt F) (Rect.unit (s := S16x1024x128) (k0_off7 k) S1x256x128.size (k0_off7_inb k)).toLoadRect X0
  | 3 => qM.view.readAt (Elt F) (Rect.unit (s := S16x1024x128) (k0_off8 k) S1x256x128.size (k0_off8_inb k)).toLoadRect X0

/-- What the trip stores for rows `256 * b` and on of head `k`. -/
def blkAt (k : Fin k0_t1_loop.trips) (b : Fin 4) : FVec F S1x256x128 .f32 :=
  k0_pay7 (keysAt X1 X4 k) (valsAt X2 X5 k) (rowsAt X0 k b)

/-- The output, element by element. -/
def outAt (y : S16x1024x128.Idx) : Elt F .f32 :=
  blkAt X0 X1 X2 X4 X5 ⟨(y (0 : Fin 3)).val, by rw [trips_eq]; exact (y (0 : Fin 3)).isLt⟩
    ⟨(y (1 : Fin 3)).val / 256, by have h : (y (1 : Fin 3)).val < 1024 := (y (1 : Fin 3)).isLt; omega⟩
    (ix3 (⟨0, Nat.one_pos⟩ : Fin 1) (⟨(y (1 : Fin 3)).val % 256, Nat.mod_lt _ (by decide)⟩ : Fin 256) (⟨(y (2 : Fin 3)).val, (y (2 : Fin 3)).isLt⟩ : Fin 128))

/-- What a trip stores, the last store first. -/
def pieces (k : Fin k0_t1_loop.trips) : List (View.Piece (Elt F) S16x1024x128 .f32) :=
  [⟨Rect.unit (s := S16x1024x128) (k0_off8 k) S1x256x128.size (k0_off8_inb k), blkAt X0 X1 X2 X4 X5 k 3⟩,
   ⟨Rect.unit (s := S16x1024x128) (k0_off7 k) S1x256x128.size (k0_off7_inb k), blkAt X0 X1 X2 X4 X5 k 2⟩,
   ⟨Rect.unit (s := S16x1024x128) (k0_off6 k) S1x256x128.size (k0_off6_inb k), blkAt X0 X1 X2 X4 X5 k 1⟩,
   ⟨Rect.unit (s := S16x1024x128) (k0_off5 k) S1x256x128.size (k0_off5_inb k), blkAt X0 X1 X2 X4 X5 k 0⟩]

/-- Block `b`'s piece reads at row `256 * b + r` what the block holds at row `r`. -/
theorem outAt_of (k : Fin k0_t1_loop.trips) (b : Fin 4) (y : S16x1024x128.Idx) (x : S1x256x128.Idx)
    (h0 : (y (0 : Fin 3)).val = k.val) (h1 : (y (1 : Fin 3)).val = 256 * b.val + (x (1 : Fin 3)).val) (h2 : (y (2 : Fin 3)).val = (x (2 : Fin 3)).val) :
    blkAt X0 X1 X2 X4 X5 k b x = outAt X0 X1 X2 X4 X5 y := by
  have hx : (x (1 : Fin 3)).val < 256 := (x (1 : Fin 3)).isLt
  have hx0 : (x (0 : Fin 3)).val < 1 := (x (0 : Fin 3)).isLt
  unfold outAt
  congr 1
  · exact Fin.ext h0.symm
  · exact Fin.ext (show b.val = _ / 256 by omega)
  · refine funext fun a => ?_
    match a with
    | ⟨0, _⟩ => exact Fin.ext (show (x (0 : Fin 3)).val = 0 by omega)
    | ⟨1, _⟩ => exact Fin.ext (show (x (1 : Fin 3)).val = _ % 256 by omega)
    | ⟨2, _⟩ => exact Fin.ext (show (x (2 : Fin 3)).val = _ from h2.symm)

theorem out_hit {off : Fin 3 → ℕ} (inb : ∀ a, off a + S1x256x128.size a ≤ S16x1024x128.size a) (w : S1x256x128.Idx → Elt F .f32)
    (L : List (View.Piece (Elt F) S16x1024x128 .f32)) (f : Out F) (y : S16x1024x128.Idx) (x : S1x256x128.Idx) {off' : Fin 3 → ℕ} (heq : off = off')
    (hx : ∀ a : Fin 3, (y a).val = off' a + (x a).val) :
    oM.view.read (Elt F) (oM.view.writes (Elt F) f (⟨Rect.unit (s := S16x1024x128) off S1x256x128.size inb, w⟩ :: L)) y = w x :=
  View.read_writes_cons_unit_of_mem oM.view f inb w L y x heq hx

theorem out_miss {off : Fin 3 → ℕ} (inb : ∀ a, off a + S1x256x128.size a ≤ S16x1024x128.size a) (w : S1x256x128.Idx → Elt F .f32)
    (L : List (View.Piece (Elt F) S16x1024x128 .f32)) (f : Out F) (y : S16x1024x128.Idx) {off' : Fin 3 → ℕ} (heq : off = off')
    (a : Fin 3) (ha : (y a).val < off' a ∨ off' a + S1x256x128.size a ≤ (y a).val) :
    oM.view.read (Elt F) (oM.view.writes (Elt F) f (⟨Rect.unit (s := S16x1024x128) off S1x256x128.size inb, w⟩ :: L)) y
      = oM.view.read (Elt F) (oM.view.writes (Elt F) f L) y :=
  View.read_writes_cons_unit_of_not_mem oM.view f inb w L y heq a ha

theorem pieces_other (k : Fin k0_t1_loop.trips) (f : Out F) (y : S16x1024x128.Idx) (h : (y (0 : Fin 3)).val ≠ k.val) :
    oM.view.writes (Elt F) f (pieces X0 X1 X2 X4 X5 k) y = f y := by
  have hm : (y (0 : Fin 3)).val < k.val ∨ k.val + 1 ≤ (y (0 : Fin 3)).val := by omega
  show oM.view.read (Elt F) (oM.view.writes (Elt F) f (pieces X0 X1 X2 X4 X5 k)) y = f y
  unfold pieces
  rw [out_miss _ _ _ f y (k0_off8_eq k) (0 : Fin 3) hm,
    out_miss _ _ _ f y (k0_off7_eq k) (0 : Fin 3) hm,
    out_miss _ _ _ f y (k0_off6_eq k) (0 : Fin 3) hm,
    out_miss _ _ _ f y (k0_off5_eq k) (0 : Fin 3) hm]
  rfl

theorem pieces_this (k : Fin k0_t1_loop.trips) (f : Out F) (y : S16x1024x128.Idx) (h : (y (0 : Fin 3)).val = k.val) :
    oM.view.writes (Elt F) f (pieces X0 X1 X2 X4 X5 k) y = outAt X0 X1 X2 X4 X5 y := by
  have hy1 : (y (1 : Fin 3)).val < 1024 := (y (1 : Fin 3)).isLt
  let x : S1x256x128.Idx := ix3 (⟨0, Nat.one_pos⟩ : Fin 1) (⟨(y (1 : Fin 3)).val % 256, Nat.mod_lt _ (by decide)⟩ : Fin 256) (⟨(y (2 : Fin 3)).val, (y (2 : Fin 3)).isLt⟩ : Fin 128)
  have hx (o : ℕ) (ho : (y (1 : Fin 3)).val = o + (y (1 : Fin 3)).val % 256) : ∀ a : Fin 3, (y a).val = (![k.val, o, 0] : Fin 3 → ℕ) a + (x a).val := fun a => by
    match a with
    | ⟨0, _⟩ => exact h
    | ⟨1, _⟩ => exact ho
    | ⟨2, _⟩ => exact (Nat.zero_add _).symm
  show oM.view.read (Elt F) (oM.view.writes (Elt F) f (pieces X0 X1 X2 X4 X5 k)) y = _
  unfold pieces
  by_cases h8 : 768 ≤ (y (1 : Fin 3)).val
  · rw [out_hit _ _ _ f y x (k0_off8_eq k) (hx 768 (by omega))]
    exact outAt_of X0 X1 X2 X4 X5 k 3 y x h (show _ = 256 * 3 + (y (1 : Fin 3)).val % 256 by omega) rfl
  rw [out_miss _ _ _ f y (k0_off8_eq k) (1 : Fin 3) (Or.inl (show _ < 768 by omega))]
  by_cases h7 : 512 ≤ (y (1 : Fin 3)).val
  · rw [out_hit _ _ _ f y x (k0_off7_eq k) (hx 512 (by omega))]
    exact outAt_of X0 X1 X2 X4 X5 k 2 y x h (show _ = 256 * 2 + (y (1 : Fin 3)).val % 256 by omega) rfl
  rw [out_miss _ _ _ f y (k0_off7_eq k) (1 : Fin 3) (Or.inl (show _ < 512 by omega))]
  by_cases h6 : 256 ≤ (y (1 : Fin 3)).val
  · rw [out_hit _ _ _ f y x (k0_off6_eq k) (hx 256 (by omega))]
    exact outAt_of X0 X1 X2 X4 X5 k 1 y x h (show _ = 256 * 1 + (y (1 : Fin 3)).val % 256 by omega) rfl
  rw [out_miss _ _ _ f y (k0_off6_eq k) (1 : Fin 3) (Or.inl (show _ < 256 by omega)),
    out_hit _ _ _ f y x (k0_off5_eq k) (hx 0 (by omega))]
  exact outAt_of X0 X1 X2 X4 X5 k 0 y x h (show _ = 256 * 0 + (y (1 : Fin 3)).val % 256 by omega) rfl

/-- The buffers a trip touches: what it reads at its contents, the output at any. -/
abbrev Trip (c : Dev nD) (f : Out F) : sProp 𝕄 :=
  iprop((qM.view.loc (c : Thread nD τ) ↦[qM.view.set]{fullShare} X0) ∗ (kM.view.loc (c : Thread nD τ) ↦[kM.view.set]{fullShare} X1)
    ∗ (vM.view.loc (c : Thread nD τ) ↦[vM.view.set]{fullShare} X2) ∗ (ckM.view.loc (c : Thread nD τ) ↦[ckM.view.set]{fullShare} X4)
    ∗ (cvM.view.loc (c : Thread nD τ) ↦[cvM.view.set]{fullShare} X5) ∗ (oM.view.loc (c : Thread nD τ) ↦[oM.view.set]{fullShare} f))

abbrev bodyAt (k : Fin k0_t1_loop.trips) : Prog (TpuEff nD τ sig (Elt F) Λ₀ .tc) PUnit :=
  k0_t1_body (F := F) qM (Memref.isWhole_whole _) kM (Memref.isWhole_whole _) vM (Memref.isWhole_whole _) oM (Memref.isWhole_whole _)
    ckM (Memref.isWhole_whole _) cvM (Memref.isWhole_whole _) cc0_scratch2 cc0_scratch3 cc0_scratch4 cc0_scratch5 k PUnit.unit

theorem trip (𝒱 : Variants) (c : Dev nD) (bd : Option 𝒱.V) (k : Fin k0_t1_loop.trips) (E : Set ℕ) (f : Out F) :
    Trip X0 X1 X2 X4 X5 c f ⊢ wp frame (wpE (defs₀ (F := F)) 𝒱 (c : Thread nD τ) bd) E (bodyAt k)
      (fun _ => Trip X0 X1 X2 X4 X5 c (oM.view.writes (Elt F) f (pieces X0 X1 X2 X4 X5 k))) := by
  have hk : k.val < 16 := Nat.lt_of_lt_of_le k.isLt k0_t1_abs.2.1
  unfold bodyAt k0_t1_body
  iintro ⟨HR_arg0, HR_arg1, HR_arg2, HR_arg4, HR_arg5, HW_arg3⟩
  sl_exec
  sl_step
  sl_close

set_option warn.classDefReducibility false in
/-- The loop: before trip `k` the output holds `outAt` on the heads below `k`. -/
def loopInv (𝒱 : Variants) (c : Dev nD) (bd : Option 𝒱.V) (E : Set ℕ) :
    LoopInvTy_k0_t1 (F := F) Unit ℕ UU ℕ 𝒱 c bd E qM (Memref.isWhole_whole _) kM (Memref.isWhole_whole _) vM (Memref.isWhole_whole _) oM (Memref.isWhole_whole _)
      ckM (Memref.isWhole_whole _) cvM (Memref.isWhole_whole _) cc0_scratch2 cc0_scratch3 cc0_scratch4 cc0_scratch5 where
  inv k _ := iprop(∃ f : Out F, ⌜∀ y : S16x1024x128.Idx, (y (0 : Fin 3)).val < k → f y = outAt X0 X1 X2 X4 X5 y⌝ ∗ Trip X0 X1 X2 X4 X5 c f)
  step k acc := by
    iintro ⟨%f, %hf, H⟩
    iapply (wp_wand_r Idealize.ShloMosaic.frame (wpE (defs₀ (F := F)) 𝒱 (c : Thread nD τ) bd) E)
    isplitl [H]
    · iapply (trip X0 X1 X2 X4 X5 𝒱 c bd k E f)
      iexact H
    · iintro %_ H
      iexists _
      isplitr
      · ipureintro
        intro y hy
        by_cases h : (y (0 : Fin 3)).val = k.val
        · exact pieces_this X0 X1 X2 X4 X5 k f y h
        · exact (pieces_other X0 X1 X2 X4 X5 k f y h).trans (hf y (by omega))
      · iexact H

end Cert.KernelIdeal.Own

end
-- ==== Proof.KernelIdeal.Body.lean ====
/- The kernel's body at a symbolic device: the barrier, three hops around the ring, and the loop over the heads. -/
module

public import proofs.«01_k».proof.Proof.KernelIdeal.Hop
public import proofs.«01_k».proof.Proof.KernelIdeal.Loop
public import Idealize.ShloMosaic.Lib.ValueLayout

@[expose] public section

noncomputable section

namespace Cert.KernelIdeal.Own

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## A stack of three blocks and its slots -/

abbrev SRef : Type := Memref sig .tc .vmem S3x16x1024x128 .bf16

abbrev R0 : Rect S3x16x1024x128 := Rect.unit (s := S3x16x1024x128) ![0, 0, 0, 0] S1x16x1024x128.size inb_S3x16x1024x128_S1x16x1024x128_0_0_0_0
abbrev R1 : Rect S3x16x1024x128 := Rect.unit (s := S3x16x1024x128) ![1, 0, 0, 0] S1x16x1024x128.size inb_S3x16x1024x128_S1x16x1024x128_1_0_0_0
abbrev R2 : Rect S3x16x1024x128 := Rect.unit (s := S3x16x1024x128) ![2, 0, 0, 0] S1x16x1024x128.size inb_S3x16x1024x128_S1x16x1024x128_2_0_0_0

theorem R01 : Disjoint R0.set R1.set := Rect.unit_disjoint (0 : Fin 4) (Or.inl (by decide))
theorem R02 : Disjoint R0.set R2.set := Rect.unit_disjoint (0 : Fin 4) (Or.inl (by decide))
theorem R12 : Disjoint R1.set R2.set := Rect.unit_disjoint (0 : Fin 4) (Or.inl (by decide))

theorem R_cover : R0.set ∪ (R1.set ∪ R2.set) = Finset.univ := by
  ext y
  simp only [Finset.mem_union, Finset.mem_univ, iff_true]
  have h1 : (y (1 : Fin 4)).val < 16 := (y (1 : Fin 4)).isLt
  have h2 : (y (2 : Fin 4)).val < 1024 := (y (2 : Fin 4)).isLt
  have h3 : (y (3 : Fin 4)).val < 128 := (y (3 : Fin 4)).isLt
  have h0 : (y (0 : Fin 4)).val = 0 ∨ (y (0 : Fin 4)).val = 1 ∨ (y (0 : Fin 4)).val = 2 := by
    have : (y (0 : Fin 4)).val < 3 := (y (0 : Fin 4)).isLt
    omega
  have key (o : ℕ) (inb) (h : (y (0 : Fin 4)).val = o) : y ∈ (Rect.unit (s := S3x16x1024x128) ![o, 0, 0, 0] S1x16x1024x128.size inb).set := by
    rw [Rect.mem_set_unit]
    intro a
    match a with
    | ⟨0, _⟩ => exact ⟨le_of_eq h.symm, show (y (0 : Fin 4)).val < o + 1 by omega⟩
    | ⟨1, _⟩ => exact ⟨Nat.zero_le _, show (y (1 : Fin 4)).val < 0 + 16 by omega⟩
    | ⟨2, _⟩ => exact ⟨Nat.zero_le _, show (y (2 : Fin 4)).val < 0 + 1024 by omega⟩
    | ⟨3, _⟩ => exact ⟨Nat.zero_le _, show (y (3 : Fin 4)).val < 0 + 128 by omega⟩
  rcases h0 with h | h | h
  · exact .inl (key 0 _ h)
  · exact .inr (.inl (key 1 _ h))
  · exact .inr (.inr (key 2 _ h))

theorem set_slot0 (M : SRef) : (slot0 M).view.set = R0.set.map M.view.emb := (View.set_reshape _ _).trans (View.set_slice _ _)
theorem set_slot1 (M : SRef) : (slot1 M).view.set = R1.set.map M.view.emb := (View.set_reshape _ _).trans (View.set_slice _ _)
theorem set_slot2 (M : SRef) : (slot2 M).view.set = R2.set.map M.view.emb := (View.set_reshape _ _).trans (View.set_slice _ _)

omit [FloatOps F] in
/-- A stack held whole is its three slots held, each reading what the stack holds there. -/
theorem stack_eq (M : SRef) (c : Dev nD) (f : Buf (Elt F) (M.view.loc (c : Thread nD τ))) :
    ((M.view.loc (c : Thread nD τ) ↦[M.view.set]{fullShare} f) : sProp 𝕄)
      = iprop(holds m (slot0 M) c ((slot0 M).view.read (Elt F) f) ∗ holds m (slot1 M) c ((slot1 M).view.read (Elt F) f)
          ∗ holds m (slot2 M) c ((slot2 M).view.read (Elt F) f)) := by
  rw [← holds_of m (slot0 M) c f, ← holds_of m (slot1 M) c f, ← holds_of m (slot2 M) c f, set_slot0, set_slot1, set_slot2,
    show M.view.set = R0.set.map M.view.emb ∪ (R1.set.map M.view.emb ∪ R2.set.map M.view.emb) by
      rw [← Finset.map_union, ← Finset.map_union, R_cover]; rfl]
  have cut {I J : Finset (Idx (M.view.loc (c : Thread nD τ)))} (h : Disjoint I J) :
      ((M.view.loc (c : Thread nD τ) ↦[I ∪ J]{fullShare} f) : sProp 𝕄)
        = iprop((M.view.loc (c : Thread nD τ) ↦[I]{fullShare} f) ∗ (M.view.loc (c : Thread nD τ) ↦[J]{fullShare} f)) :=
    BI.equiv_iff.mp ⟨(pointsTo_union h).1, (pointsTo_union h).2⟩
  refine (cut ?_).trans (congrArg (BI.sep _) (cut ?_))
  · rw [← Finset.map_union, Finset.disjoint_map, Finset.disjoint_union_right]
    exact ⟨R01, R02⟩
  · rw [Finset.disjoint_map]
    exact R12

/-- Three blocks stacked. -/
def full (X0 X1 X2 : Blk F) : Stk F := fun y =>
  (match y (0 : Fin 4) with | ⟨0, _⟩ => X0 | ⟨1, _⟩ => X1 | ⟨_, _⟩ => X2) (ix3 (y (1 : Fin 4)) (y (2 : Fin 4)) (y (3 : Fin 4)))

theorem slot_emb (o : ℕ) (ho : o < 3) (inb) (hq) (x : S16x1024x128.Idx) :
    (Rect.unit (s := S3x16x1024x128) ![o, 0, 0, 0] S1x16x1024x128.size inb).emb (Shape.reshapeEquiv (s' := S16x1024x128) (s := S1x16x1024x128) hq x)
      = ix4 (⟨o, ho⟩ : Fin 3) (x (0 : Fin 3)) (x (1 : Fin 3)) (x (2 : Fin 3)) := by
  have hx : x = ix3 (x (0 : Fin 3)) (x (1 : Fin 3)) (x (2 : Fin 3)) := by
    funext a; match a with | ⟨0, _⟩ => rfl | ⟨1, _⟩ => rfl | ⟨2, _⟩ => rfl
  have h := (congrArg (Shape.reshapeEquiv hq) hx).trans (reshapeEquiv_ix3_1abc hq (x (0 : Fin 3)) (x (1 : Fin 3)) (x (2 : Fin 3)))
  refine (congrArg (Rect.unit (s := S3x16x1024x128) ![o, 0, 0, 0] S1x16x1024x128.size inb).emb h).trans ?_
  funext a
  apply Fin.ext
  match a with
  | ⟨0, _⟩ => show o + 1 * 0 = o; omega
  | ⟨1, _⟩ => show 0 + 1 * (x (0 : Fin 3)).val = (x (0 : Fin 3)).val; omega
  | ⟨2, _⟩ => show 0 + 1 * (x (1 : Fin 3)).val = (x (1 : Fin 3)).val; omega
  | ⟨3, _⟩ => show 0 + 1 * (x (2 : Fin 3)).val = (x (2 : Fin 3)).val; omega

/-- The body's effects in order, at device `c`. -/
def ringProg (c : Dev nD) : Prog (TpuEff nD τ sig (Elt F) Λ₀ .tc) PUnit :=
  .op (.semSignal ((⟨k0_dev1 c, k0_dev1_lt c⟩ : Dev nD), .tc) barS (1#32 : BitVec 32).toInt) fun _ =>
  .op (.semSignal ((⟨k0_dev2 c, k0_dev2_lt c⟩ : Dev nD), .tc) barS (1#32 : BitVec 32).toInt) fun _ =>
  .op (.semWait barS (2#32 : BitVec 32).toInt) fun _ =>
  hopProg 0 1 ⟨k0_dev3 c, k0_dev3_lt c⟩ ⟨k0_dev4 c, k0_dev4_lt c⟩ <|
  hopProg 2 3 ⟨k0_dev5 c, k0_dev5_lt c⟩ ⟨k0_dev6 c, k0_dev6_lt c⟩ <|
  hopProg 4 5 ⟨k0_dev7 c, k0_dev7_lt c⟩ ⟨k0_dev8 c, k0_dev8_lt c⟩ <|
  (Scf.Loop.for k0_t1_loop k0_t1_ok PUnit.unit (k0_t1_body (F := F) qM (Memref.isWhole_whole _) kM (Memref.isWhole_whole _) vM (Memref.isWhole_whole _) oM (Memref.isWhole_whole _)
    ckM (Memref.isWhole_whole _) cvM (Memref.isWhole_whole _) cc0_scratch2 cc0_scratch3 cc0_scratch4 cc0_scratch5)) >>= fun _ => pure ⟨⟩

theorem prog_eq (c : Dev nD) (Kt : PUnit → sProp 𝕄) :
    wp frame (wpE (defs₀ (F := F)) 𝒱₀ (c : Thread nD τ) none) Set.univ
        (cc0_body (F := F) qM (Memref.isWhole_whole _) kM (Memref.isWhole_whole _) vM (Memref.isWhole_whole _) oM (Memref.isWhole_whole _)
          ckM (Memref.isWhole_whole _) cvM (Memref.isWhole_whole _) cc0_scratch2 cc0_scratch3 cc0_scratch4 cc0_scratch5) Kt
      = wp frame (wpE (defs₀ (F := F)) 𝒱₀ (c : Thread nD τ) none) Set.univ (ringProg c) Kt := by
  simp only [cc0_body_eq_skeleton]; unfold cc0_body_skel
  simp only [k0_part3_eq_skeleton, k0_part4_eq_skeleton, k0_part5_eq_skeleton, k0_part6_eq_skeleton, k0_part7_eq_skeleton, k0_part8_eq_skeleton, k0_part9_eq_skeleton]
  unfold k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  rfl

/-- What `full` reads as at its slots. -/
theorem full_at (X0 X1 X2 : Blk F) (x : S16x1024x128.Idx) (o : ℕ) (ho : o < 3) :
    full X0 X1 X2 (ix4 (⟨o, ho⟩ : Fin 3) (x (0 : Fin 3)) (x (1 : Fin 3)) (x (2 : Fin 3)))
      = (match (⟨o, ho⟩ : Fin 3) with | ⟨0, _⟩ => X0 | ⟨1, _⟩ => X1 | ⟨_, _⟩ => X2) x := by
  have hx : ix3 (x (0 : Fin 3)) (x (1 : Fin 3)) (x (2 : Fin 3)) = x := by
    funext a; match a with | ⟨0, _⟩ => rfl | ⟨1, _⟩ => rfl | ⟨2, _⟩ => rfl
  exact congrArg (match (⟨o, ho⟩ : Fin 3) with | ⟨0, _⟩ => X0 | ⟨1, _⟩ => X1 | ⟨_, _⟩ => X2) hx

/-- A slot of a stack read through any reference, at an index. -/
theorem slot_read0 (M : SRef) (f : M.view.ty.Contents (Elt F)) (x : S16x1024x128.Idx) :
    (slot0 M).view.read (Elt F) f x = M.view.read (Elt F) f (ix4 (⟨0, by decide⟩ : Fin 3) (x (0 : Fin 3)) (x (1 : Fin 3)) (x (2 : Fin 3))) :=
  (show (slot0 M).view.read (Elt F) f x = M.view.read (Elt F) f (R0.emb (Shape.reshapeEquiv (s' := S16x1024x128) (s := S1x16x1024x128) rfl x)) from rfl).trans
    (congrArg (M.view.read (Elt F) f) (slot_emb 0 (by decide) inb_S3x16x1024x128_S1x16x1024x128_0_0_0_0 rfl x))
theorem slot_read1 (M : SRef) (f : M.view.ty.Contents (Elt F)) (x : S16x1024x128.Idx) :
    (slot1 M).view.read (Elt F) f x = M.view.read (Elt F) f (ix4 (⟨1, by decide⟩ : Fin 3) (x (0 : Fin 3)) (x (1 : Fin 3)) (x (2 : Fin 3))) :=
  (show (slot1 M).view.read (Elt F) f x = M.view.read (Elt F) f (R1.emb (Shape.reshapeEquiv (s' := S16x1024x128) (s := S1x16x1024x128) rfl x)) from rfl).trans
    (congrArg (M.view.read (Elt F) f) (slot_emb 1 (by decide) inb_S3x16x1024x128_S1x16x1024x128_1_0_0_0 rfl x))
theorem slot_read2 (M : SRef) (f : M.view.ty.Contents (Elt F)) (x : S16x1024x128.Idx) :
    (slot2 M).view.read (Elt F) f x = M.view.read (Elt F) f (ix4 (⟨2, by decide⟩ : Fin 3) (x (0 : Fin 3)) (x (1 : Fin 3)) (x (2 : Fin 3))) :=
  (show (slot2 M).view.read (Elt F) f x = M.view.read (Elt F) f (R2.emb (Shape.reshapeEquiv (s' := S16x1024x128) (s := S1x16x1024x128) rfl x)) from rfl).trans
    (congrArg (M.view.read (Elt F) f) (slot_emb 2 (by decide) inb_S3x16x1024x128_S1x16x1024x128_2_0_0_0 rfl x))

theorem read_k0 (X0 X1 X2 : Blk F) : (slot0 ckM).view.read (Elt F) (full X0 X1 X2) = X0 :=
  funext fun x => (slot_read0 ckM (full X0 X1 X2) x).trans (full_at X0 X1 X2 x 0 (by decide))
theorem read_k1 (X0 X1 X2 : Blk F) : (slot1 ckM).view.read (Elt F) (full X0 X1 X2) = X1 :=
  funext fun x => (slot_read1 ckM (full X0 X1 X2) x).trans (full_at X0 X1 X2 x 1 (by decide))
theorem read_k2 (X0 X1 X2 : Blk F) : (slot2 ckM).view.read (Elt F) (full X0 X1 X2) = X2 :=
  funext fun x => (slot_read2 ckM (full X0 X1 X2) x).trans (full_at X0 X1 X2 x 2 (by decide))
theorem read_v0 (X0 X1 X2 : Blk F) : (slot0 cvM).view.read (Elt F) (full X0 X1 X2) = X0 :=
  funext fun x => (slot_read0 cvM (full X0 X1 X2) x).trans (full_at X0 X1 X2 x 0 (by decide))
theorem read_v1 (X0 X1 X2 : Blk F) : (slot1 cvM).view.read (Elt F) (full X0 X1 X2) = X1 :=
  funext fun x => (slot_read1 cvM (full X0 X1 X2) x).trans (full_at X0 X1 X2 x 1 (by decide))
theorem read_v2 (X0 X1 X2 : Blk F) : (slot2 cvM).view.read (Elt F) (full X0 X1 X2) = X2 :=
  funext fun x => (slot_read2 cvM (full X0 X1 X2) x).trans (full_at X0 X1 X2 x 2 (by decide))

theorem stack_k (c : Dev nD) (X0 X1 X2 : Blk F) :
    ((ckM.view.loc (c : Thread nD τ) ↦[ckM.view.set]{fullShare} full X0 X1 X2) : sProp 𝕄)
      = iprop(holds m (slot0 ckM) c X0 ∗ holds m (slot1 ckM) c X1 ∗ holds m (slot2 ckM) c X2) := by
  rw [stack_eq m ckM c, read_k0, read_k1, read_k2]
theorem stack_v (c : Dev nD) (X0 X1 X2 : Blk F) :
    ((cvM.view.loc (c : Thread nD τ) ↦[cvM.view.set]{fullShare} full X0 X1 X2) : sProp 𝕄)
      = iprop(holds m (slot0 cvM) c X0 ∗ holds m (slot1 cvM) c X1 ∗ holds m (slot2 cvM) c X2) := by
  rw [stack_eq m cvM c, read_v0, read_v1, read_v2]

/-- A whole buffer at a block is held at it. -/
theorem holds_k (c : Dev nD) (X : Blk F) : ((kM.view.loc (c : Thread nD τ) ↦[kM.view.set]{fullShare} X) : sProp 𝕄) = holds m kM c X := holds_of m kM c X
theorem holds_v (c : Dev nD) (X : Blk F) : ((vM.view.loc (c : Thread nD τ) ↦[vM.view.set]{fullShare} X) : sProp 𝕄) = holds m vM c X := holds_of m vM c X

/-! ## The run -/

/-- What the device's two stacks hold once the ring is done. -/
def KS (c : Dev nD) : Stk F := full (KB m (prv c)) (KB m (prv (prv c))) (KB m (prv (prv (prv c))))
def VS (c : Dev nD) : Stk F := full (VB m (prv c)) (VB m (prv (prv c))) (VB m (prv (prv (prv c))))
/-- What the device's output buffer holds at the end. -/
def OB (c : Dev nD) : Out F := outAt (QB m c) (KB m c) (VB m c) (KS m c) (VS m c)

omit [FloatOps F] in
theorem bigSep_fin6 (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide), bigSep_insert (by decide),
    bigSep_insert (by decide), bigSep_insert (by decide), bigSep_singleton]
  rfl

variable (K : GSem nD τ sig → ℕ) (c : Dev nD)

/-- The protocol's state once the copies' cells are open. -/
def opened : sProp 𝕄 :=
  iprop(invs m K ∗ atPos ER (barCell c) 0 ∅ 0 ∗ (bigSep Finset.univ fun i : Fin 6 => reached ER (rcvCell i c) 0)
    ∗ dutyTok ER (barCell (prv c)) 0 true ∗ dutyTok ER (barCell (nxt c)) 0 false ∗ cred (tallyAt (barCell c) () 2)
    ∗ bigSep Finset.univ fun i : Fin 6 => pend c i)

def bodyPre (W : Waits sig Unit) : sProp 𝕄 :=
  iprop(opened m K c ∗ levAts L lv
    ∗ (∃ f, ckM.view.loc (c : Thread nD τ) ↦[ckM.view.set]{fullShare} f) ∗ (∃ f, cvM.view.loc (c : Thread nD τ) ↦[cvM.view.set]{fullShare} f)
    ∗ (qM.view.loc (c : Thread nD τ) ↦[qM.view.set]{fullShare} QB m c) ∗ (kM.view.loc (c : Thread nD τ) ↦[kM.view.set]{fullShare} KB m c)
    ∗ (vM.view.loc (c : Thread nD τ) ↦[vM.view.set]{fullShare} VB m c) ∗ (∃ f, oM.view.loc (c : Thread nD τ) ↦[oM.view.set]{fullShare} f)
    ∗ owes (c : Thread nD τ) (O₀ c) W)

def bodyPost : sProp 𝕄 :=
  iprop((semVal (barCell c) 0 ∗ bigSep Finset.univ fun i : Fin 6 => iprop(semVal (sndCell i c) 0 ∗ semVal (rcvCell i c) 0))
    ∗ Trip (QB m c) (KB m c) (VB m c) (KS m c) (VS m c) c (OB m c)
    ∗ ∃ W, owes (c : Thread nD τ) (0 : CellTallies nD τ sig Unit) W)

theorem close_bar : iprop(invs m K ∗ atPos ER (barCell c) (0 + 1) ∅ 0) ⊢ (|={Set.univ}=> semVal (barCell c) 0 : sProp 𝕄) := by
  iintro ⟨#HI, H⟩
  iapply (Rounds.cell_close ER (sched m) (Set.mem_univ (K (barCell c))) id (duties_later m (barCell c)))
  isplitr; · iapply (inv_bar m K c); iexact HI
  iexact H

theorem close_over (i : Fin 6) : iprop(invs m K ∗ over c i) ⊢ (|={Set.univ}=> iprop(semVal (sndCell i c) 0 ∗ semVal (rcvCell i c) 0) : sProp 𝕄) := by
  unfold over
  iintro ⟨#HI, Hs, Hr⟩
  imod (Rounds.cell_close ER (sched m) (Set.mem_univ (K (sndCell i c))) id (duties_later m (sndCell i c))) $$ [Hs] with Hs
  · isplitr; · iapply (inv_snd m K c i); iexact HI
    iexact Hs
  imod (Rounds.cell_close ER (sched m) (Set.mem_univ (K (rcvCell i c))) id (duties_later m (rcvCell i c))) $$ [Hr] with Hr
  · isplitr; · iapply (inv_rcv m K c i); iexact HI
    iexact Hr
  imodintro
  isplitl [Hs] <;> iassumption

/-- The six places on device `c` that the previous device writes, out of its two stacks. -/
theorem bar_pay (f : Buf (Elt F) (ckM.view.loc (c : Thread nD τ))) (g : Buf (Elt F) (cvM.view.loc (c : Thread nD τ))) :
    iprop((ckM.view.loc (c : Thread nD τ) ↦[ckM.view.set]{fullShare} f) ∗ (cvM.view.loc (c : Thread nD τ) ↦[cvM.view.set]{fullShare} g)
      ∗ bigSep Finset.univ fun i : Fin 6 => reached ER (rcvCell i c) 0) ⊢ barPay m (prv c) := by
  unfold barPay
  rw [nxt_prv, bigSep_sep', bigSep_fin6 fun i => free m (dstM i) c, stack_eq m ckM c f, stack_eq m cvM c g]
  iintro ⟨⟨H0, H2, H4⟩, ⟨H1, H3, H5⟩, HR⟩
  isplitr [HR]
  · unfold free
    isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact HR

set_option maxHeartbeats 800000 in
theorem loop_run (f : Out F) (Kt : PUnit → sProp 𝕄) :
    iprop(Trip (QB m c) (KB m c) (VB m c) (KS m c) (VS m c) c f ∗ (Trip (QB m c) (KB m c) (VB m c) (KS m c) (VS m c) c (OB m c) -∗ |={Set.univ}=> Kt ⟨⟩))
      ⊢ wp frame (wpE (defs₀ (F := F)) 𝒱₀ (c : Thread nD τ) none) Set.univ
        ((Scf.Loop.for k0_t1_loop k0_t1_ok PUnit.unit (k0_t1_body (F := F) qM (Memref.isWhole_whole _) kM (Memref.isWhole_whole _) vM (Memref.isWhole_whole _) oM (Memref.isWhole_whole _)
          ckM (Memref.isWhole_whole _) cvM (Memref.isWhole_whole _) cc0_scratch2 cc0_scratch3 cc0_scratch4 cc0_scratch5)) >>= fun _ => pure ⟨⟩) Kt := by
  have hI : Trip (QB m c) (KB m c) (VB m c) (KS m c) (VS m c) c f ⊢ (loopInv (QB m c) (KB m c) (VB m c) (KS m c) (VS m c) 𝒱₀ c none Set.univ).inv 0 PUnit.unit := by
    show _ ⊢ iprop(∃ f : Out F, ⌜∀ y : S16x1024x128.Idx, (y (0 : Fin 3)).val < 0 → f y = outAt _ _ _ _ _ y⌝ ∗ Trip _ _ _ _ _ c f)
    iintro H
    iexists f
    isplitr; · ipureintro; intro y hy; exact absurd hy (Nat.not_lt_zero _)
    iexact H
  iintro ⟨H, Hk⟩
  iapply (Scf.wp_for_bind frame (wpE (defs₀ (F := F)) 𝒱₀ (c : Thread nD τ) none) Set.univ _ _ _ _ _ _
    (loopInv (QB m c) (KB m c) (VB m c) (KS m c) (VS m c) 𝒱₀ c none Set.univ).inv
    (loopInv (QB m c) (KB m c) (VB m c) (KS m c) (VS m c) 𝒱₀ c none Set.univ).step) $$ [H]
  · iapply hI $$ H
  iintro %acc H
  ihave H' := (show (loopInv (QB m c) (KB m c) (VB m c) (KS m c) (VS m c) 𝒱₀ c none Set.univ).inv k0_t1_loop.trips acc
    ⊢ iprop(∃ f : Out F, ⌜∀ y : S16x1024x128.Idx, (y (0 : Fin 3)).val < k0_t1_loop.trips → f y = outAt (QB m c) (KB m c) (VB m c) (KS m c) (VS m c) y⌝
        ∗ Trip (QB m c) (KB m c) (VB m c) (KS m c) (VS m c) c f) from BI.Entails.refl _) $$ H
  icases H' with ⟨%g, %hg, H⟩
  have e : g = OB m c := by
    funext y
    refine hg y ?_
    rw [trips_eq]
    exact (y (0 : Fin 3)).isLt
  subst e
  rw [Prog.pure_eq_ret, wp_ret]
  iapply Hk
  iexact H

set_option maxHeartbeats 1600000 in
/-- The body from `bodyPre` to `bodyPost`. -/
theorem body_run (W : Waits sig Unit) (Kt : PUnit → sProp 𝕄) :
    iprop(bodyPre m K c W ∗ (bodyPost m c -∗ Kt ⟨⟩))
      ⊢ wp frame (wpE (defs₀ (F := F)) 𝒱₀ (c : Thread nD τ) none) Set.univ
        (cc0_body (F := F) qM (Memref.isWhole_whole _) kM (Memref.isWhole_whole _) vM (Memref.isWhole_whole _) oM (Memref.isWhole_whole _)
          ckM (Memref.isWhole_whole _) cvM (Memref.isWhole_whole _) cc0_scratch2 cc0_scratch3 cc0_scratch4 cc0_scratch5) Kt := by
  rw [prog_eq]
  unfold ringProg bodyPre opened
  rw [bigSep_fin6 (pend c)]
  simp only [dev1_eq c, dev2_eq c]
  iintro ⟨⟨⟨#HI, HatB, #HrR, HtP, HtN, HcB, P0, P1, P2, P3, P4, P5⟩, #Hlev, ⟨%f, Hck⟩, ⟨%g, Hcv⟩, Hq, Hk, Hv, ⟨%h, Ho⟩, HO⟩, Hend⟩
  -- the signal to the previous device: the six places it writes here, and that their cells are open
  unfold O₀
  iapply (Rounds.wp_signal 𝒱₀ ER (sched m) (c : Thread nD τ) none (dst := (prv c : Thread nD τ)) (κ := K (barCell (prv c)))
      (d := true) (by rw [duties_bar]; exact Finset.mem_univ _) ((amount_bar m (prv c) true).trans (by decide)) () (rest 0 c + tallyAt (barCell (nxt c)) () 1) rfl)
    $$ [HO HtP Hck Hcv]
  · isplitr; · iapply (inv_bar m K (prv c)); iexact HI
    isplitl [HO]; · iexact HO
    isplitl [HtP]; · iexact HtP
    isplitl [Hck Hcv]
    · rw [payload_bar_true]
      iapply (bar_pay m c f g)
      isplitl [Hck]; · iexact Hck
      isplitl [Hcv]; · iexact Hcv
      iexact HrR
    · iapply (bar_reached m K (prv c)); iexact HI
  iintro HO
  -- the signal to the next device hands over nothing
  iapply (Rounds.wp_signal 𝒱₀ ER (sched m) (c : Thread nD τ) none (dst := (nxt c : Thread nD τ)) (κ := K (barCell (nxt c)))
      (d := false) (by rw [duties_bar]; exact Finset.mem_univ _) ((amount_bar m (nxt c) false).trans (by decide)) () (rest 0 c) rfl)
    $$ [HO HtN]
  · isplitr; · iapply (inv_bar m K (nxt c)); iexact HI
    isplitl [HO]; · iexact HO
    isplitl [HtN]; · iexact HtN
    isplitr; · rw [payload_bar_false]; iempintro
    iapply (bar_reached m K (nxt c)); iexact HI
  iintro HO
  -- the wait for both neighbours: the six places on the next device come with it
  iapply (Rounds.wp_wait_rest_token 𝒱₀ ER (sched m) (c : Thread nD τ) none (κ := K (barCell c))
      (wpE_semWait_eq 𝒱₀ (c : Thread nD τ) none Set.univ) (Set.mem_univ _) () (O := rest 0 c) (W := W) (R := 0) (m := 0) (T := ∅)
      (by rw [expect_bar]; decide)) $$ [HcB HO HatB]
  · isplitr; · iapply (inv_bar m K c); iexact HI
    isplitl [HcB]; · iexact HcB
    isplitl [HO]; · iexact HO
    isplitr; · iapply (mayWait c (.reg barS) 0 (le_of_eq (lv_bar c ()))); iexact Hlev
    iexact HatB
  iintro ⟨HO, HatB, -, Hpay⟩
  ihave Hp := (Entails.of_eq ((rest_bar m c).trans (by unfold barPay; rw [bigSep_fin6]))) $$ Hpay
  icases Hp with ⟨-, F0, F1, F2, F3, F4, F5⟩
  ihave Hk := (Entails.of_eq (holds_k m c (KB m c))) $$ Hk
  ihave Hv := (Entails.of_eq (holds_v m c (VB m c))) $$ Hv
  -- hop 0
  iapply (hop_step m K c 0 1 rfl _ _ (dev3_eq c) (dev4_eq c) _) $$ [P0 P1 F0 F1 Hk Hv HO]
  · isplitr; · iexact HI
    isplitr; · iexact Hlev
    isplitl [P0]; · iexact P0
    isplitl [P1]; · iexact P1
    isplitl [F0]; · iexact F0
    isplitl [F1]; · iexact F1
    isplitl [Hk]; · iexact Hk
    isplitl [Hv]; · iexact Hv
    iexact HO
  iintro ⟨Q0, Q1, Hk, Hv, A0, B0, ⟨%W1, HO⟩⟩
  -- hop 1
  iapply (hop_step m K c 2 3 rfl _ _ (dev5_eq c) (dev6_eq c) W1) $$ [P2 P3 F2 F3 A0 B0 HO]
  · isplitr; · iexact HI
    isplitr; · iexact Hlev
    isplitl [P2]; · iexact P2
    isplitl [P3]; · iexact P3
    isplitl [F2]; · iexact F2
    isplitl [F3]; · iexact F3
    isplitl [A0]; · iexact A0
    isplitl [B0]; · iexact B0
    iexact HO
  iintro ⟨Q2, Q3, A0, B0, A1, B1, ⟨%W2, HO⟩⟩
  -- hop 2
  iapply (hop_step m K c 4 5 rfl _ _ (dev7_eq c) (dev8_eq c) W2) $$ [P4 P5 F4 F5 A1 B1 HO]
  · isplitr; · iexact HI
    isplitr; · iexact Hlev
    isplitl [P4]; · iexact P4
    isplitl [P5]; · iexact P5
    isplitl [F4]; · iexact F4
    isplitl [F5]; · iexact F5
    isplitl [A1]; · iexact A1
    isplitl [B1]; · iexact B1
    iexact HO
  iintro ⟨Q4, Q5, A1, B1, A2, B2, ⟨%W3, HO⟩⟩
  -- the loop over the heads
  iapply (loop_run m c h Kt)
  isplitl [Hq Hk Hv A0 A1 A2 B0 B1 B2 Ho]
  · unfold Trip KS VS
    rw [holds_k m c, holds_v m c, stack_k m c, stack_v m c]
    isplitl [Hq]; · iexact Hq
    isplitl [Hk]; · iexact Hk
    isplitl [Hv]; · iexact Hv
    isplitl [A0 A1 A2]
    · isplitl [A0]; · iexact A0
      isplitl [A1]; · iexact A1
      iexact A2
    isplitl [B0 B1 B2]
    · isplitl [B0]; · iexact B0
      isplitl [B1]; · iexact B1
      iexact B2
    iexact Ho
  iintro HT
  -- every cell is closed, its counter back at zero
  imod (close_bar m K c) $$ [HatB] with HatB
  · isplitr; · iexact HI
    iexact HatB
  imod (close_over m K c 0) $$ [Q0] with Q0
  · isplitr; · iexact HI
    iexact Q0
  imod (close_over m K c 1) $$ [Q1] with Q1
  · isplitr; · iexact HI
    iexact Q1
  imod (close_over m K c 2) $$ [Q2] with Q2
  · isplitr; · iexact HI
    iexact Q2
  imod (close_over m K c 3) $$ [Q3] with Q3
  · isplitr; · iexact HI
    iexact Q3
  imod (close_over m K c 4) $$ [Q4] with Q4
  · isplitr; · iexact HI
    iexact Q4
  imod (close_over m K c 5) $$ [Q5] with Q5
  · isplitr; · iexact HI
    iexact Q5
  imodintro
  iapply Hend
  unfold bodyPost
  isplitl [HatB Q0 Q1 Q2 Q3 Q4 Q5]
  · isplitl [HatB]; · iexact HatB
    iapply (Entails.of_eq (bigSep_fin6 fun i : Fin 6 => iprop(semVal (sndCell i c) 0 ∗ semVal (rcvCell i c) 0)).symm)
    isplitl [Q0]; · iexact Q0
    isplitl [Q1]; · iexact Q1
    isplitl [Q2]; · iexact Q2
    isplitl [Q3]; · iexact Q3
    isplitl [Q4]; · iexact Q4
    iexact Q5
  isplitl [HT]; · iexact HT
  iexists W3
  rw [← rest_six c]
  iexact HO

end Cert.KernelIdeal.Own

end
-- ==== Proof.KernelIdeal.Region.lean ====
/- The kernel's region: its proof data, the body obligation off `body_run`, and the region's record. -/
module

public import proofs.«01_k».proof.Proof.KernelIdeal.Body
public import Idealize.ShloMosaic.Lib.Pipeline.RegionTalk
public import Idealize.ShloMosaic.Lib.Pipeline.ValueKit.Geometry
public import Idealize.ShloMosaic.Lib.Rounds.Family

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The protocol's state on entry, and its opening -/

omit [FloatOps F] in
theorem bigSep_two (Φ : Bool → sProp 𝕄) : bigSep Finset.univ Φ = iprop(Φ false ∗ Φ true) := by
  rw [show (Finset.univ : Finset Bool) = {false, true} from by decide, bigSep_insert (by decide), bigSep_singleton]
  rfl

omit [FloatOps F] in
/-- A family over the twelve copy semaphores: the sources' and the destinations'. -/
theorem bigSep_ends (Φ : Bool × Fin 6 → sProp 𝕄) :
    bigSep Finset.univ Φ = iprop((bigSep Finset.univ fun i : Fin 6 => Φ (false, i)) ∗ bigSep Finset.univ fun i : Fin 6 => Φ (true, i)) := by
  rw [bigSep_univ_prod, bigSep_two]

/-- What a device pays its two neighbours and its own cells with. -/
def duesOf (c : Dev nD) : sProp 𝕄 :=
  iprop(dutyTok ER (barCell (prv c)) 0 true ∗ dutyTok ER (barCell (nxt c)) 0 false
    ∗ (bigSep Finset.univ fun i : Fin 6 => dutyTok ER (sndCell i c) 0 true) ∗ bigSep Finset.univ fun i : Fin 6 => dutyTok ER (rcvCell i (nxt c)) 0 true)

/-- What a device may wait for. -/
def credsOf (c : Dev nD) : sProp 𝕄 :=
  iprop(cred (tallyAt (barCell c) () 2) ∗ bigSep Finset.univ fun i : Fin 6 => cred (tallyAt (rcvCell i c) () N))

/-- The state before the copies' cells are opened. -/
def Tk (c : Dev nD) : sProp 𝕄 :=
  iprop((∃ K, invs m K) ∗ (atPos ER (barCell c) 0 ∅ 0 ∗ bigSep Finset.univ fun k : Bool × Fin 6 => openTok ER (ownCell c k)) ∗ duesOf c ∗ credsOf c)

/-- The state the body starts from. -/
def Xk (c : Dev nD) : sProp 𝕄 := iprop((∃ K, opened m K c) ∗ levAts L lv)
/-- What the region leaves of it. -/
def Yk (c : Dev nD) : sProp 𝕄 := semVal (barCell c) 0

theorem own_sems (c : Dev nD) : (Pipeline.ownSems0 (Ix := Unit) (Name := ℕ) (U := UU) (Lvl := ℕ) (Val := Elt F) osem c : sProp 𝕄)
    = bigSep Finset.univ fun k : Bool × Fin 6 => semVal (ownCell c k) 0 := rfl

theorem own_sems_ends (c : Dev nD) : (bigSep Finset.univ fun k : Bool × Fin 6 => (semVal (ownCell c k) 0 : sProp 𝕄))
    = bigSep Finset.univ fun i : Fin 6 => iprop(semVal (sndCell i c) 0 ∗ semVal (rcvCell i c) 0) := by
  rw [bigSep_ends, bigSep_sep']; rfl

theorem own_invs (K : GSem nD τ sig → ℕ) (c : Dev nD) :
    invs m K ⊢ (bigSep Finset.univ fun k : Bool × Fin 6 => (cellInv ER (sched m) (K (ownCell c k)) (ownCell c k) : sProp 𝕄)) :=
  bigSep_intro_persistent fun k _ => inv_own m K c k

theorem open_all (K : GSem nD τ sig → ℕ) (c : Dev nD) :
    iprop(invs m K ∗ (bigSep Finset.univ fun k : Bool × Fin 6 => openTok ER (ownCell c k)) ∗ bigSep Finset.univ fun k : Bool × Fin 6 => semVal (ownCell c k) 0)
      ⊢ (|={Set.univ}=> bigSep Finset.univ fun k : Bool × Fin 6 => iprop(atPos ER (ownCell c k) 0 ∅ 0 ∗ reached ER (ownCell c k) 0) : sProp 𝕄) := by
  iintro ⟨#HI, Ho, Hv⟩
  iapply (Rounds.cells_open ER (sched m) Finset.univ (ownCell c) (fun k => K (ownCell c k)) (fun k _ => Set.mem_univ _))
  isplitl [Ho]
  · iapply (Entails.of_eq (bigSep_sep' _ _ _).symm)
    isplitr; · iapply (own_invs m K c); iexact HI
    iexact Ho
  iexact Hv

/-- The opened families, copy by copy. -/
theorem pend_all (c : Dev nD) :
    iprop((bigSep Finset.univ fun k : Bool × Fin 6 => iprop(atPos ER (ownCell c k) 0 ∅ 0 ∗ reached ER (ownCell c k) 0))
        ∗ (bigSep Finset.univ fun i : Fin 6 => dutyTok ER (sndCell i c) 0 true) ∗ (bigSep Finset.univ fun i : Fin 6 => dutyTok ER (rcvCell i (nxt c)) 0 true)
        ∗ bigSep Finset.univ fun i : Fin 6 => cred (tallyAt (rcvCell i c) () N))
      ⊢ (iprop((bigSep Finset.univ fun i : Fin 6 => reached ER (rcvCell i c) 0) ∗ bigSep Finset.univ fun i : Fin 6 => pend c i) : sProp 𝕄) := by
  unfold pend
  simp only [bigSep_sep']
  rw [bigSep_ends, bigSep_ends]
  iintro ⟨⟨⟨Ha, Hb⟩, ⟨Hc, Hd⟩⟩, H1, H2, H3⟩
  isplitl [Hd]; · iexact Hd
  isplitl [Ha]; · iexact Ha
  isplitl [Hb]; · iexact Hb
  isplitl [Hc]; · iexact Hc
  isplitl [H1]; · iexact H1
  isplitl [H2]; · iexact H2
  iexact H3

theorem hopen (c : Dev nD) : iprop(Tk m c ∗ Pipeline.ownSems0 osem c ∗ levAts L lv) ⊢ (|={Set.univ}=> Xk m c : sProp 𝕄) := by
  rw [own_sems]
  unfold Tk Xk duesOf credsOf
  iintro ⟨⟨⟨%K, #HI⟩, ⟨Hat, Hopen⟩, ⟨H1, H2, H3, H4⟩, Hc, H5⟩, Hv, #Hlev⟩
  imod (open_all m K c) $$ [Hopen Hv] with Hall
  · isplitr; · iexact HI
    isplitl [Hopen] <;> iassumption
  imodintro
  ihave Hp := (pend_all (F := F) c) $$ [Hall H3 H4 H5]
  · isplitl [Hall]; · iexact Hall
    isplitl [H3]; · iexact H3
    isplitl [H4] <;> iassumption
  icases Hp with ⟨Hr, Hp⟩
  isplitr []
  · iexists K
    unfold opened
    isplitr; · iexact HI
    isplitl [Hat]; · iexact Hat
    isplitl [Hr]; · iexact Hr
    isplitl [H1]; · iexact H1
    isplitl [H2]; · iexact H2
    isplitl [Hc] <;> iassumption
  iexact Hlev

/-! ## The proof data -/

/-- The two stacks, at contents not chosen. -/
def pair2 (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(pair2 c ∗ (∃ r, prngReg c r) ∗ Xk m c)
def Φ₁ (c : Dev nD) : sProp 𝕄 :=
  iprop(pair2 c ∗ (∃ r, prngReg c r) ∗ (bigSep Finset.univ fun i : Fin 6 => iprop(semVal (sndCell i c) 0 ∗ semVal (rcvCell i c) 0)) ∗ Yk c)

def datOf (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OB m c
  Φ t := if t.val = 0 then Φ₀ m c else Φ₁ c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c :=
  fun _ c => datOf m c

theorem owed_zero (c : Dev nD) : (pdats m 0 c).owed 0 = O₀ c := by
  show (if ((0 : Fin (cfg0.N + 1)).val = 0) then O₀ c else 0) = O₀ c; exact if_pos rfl
theorem owed_first (c : Dev nD) : (datOf m c).owed t0_0.castSucc = O₀ c := by
  show (if ((t0_0.castSucc : Fin (cfg0.N + 1)).val = 0) then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owes_in {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound
  rw [h, hr]
  iintro H
  iexists W
  isplitr; · ipureintro; exact fun _ _ => Or.inl trivial
  iexact H
theorem owes_out {cfg : Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, H⟩
  iexists W
  iexact H

theorem before_0 {c : Dev nD} (dat : Dat τ (Elt F) Unit ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ UU ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ UU ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A staging buffer held whole, at `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def before' (c : Dev nD) : sProp 𝕄 :=
  iprop(Φ₀ m c ∗ (datOf m c).owesAt () t0_0.castSucc
    ∗ (∃ d, stg c cc0_stg0_0 ((datOf m c).before (0 : Fin 4) t0_0 d)) ∗ (∃ d, stg c cc0_stg1_0 ((datOf m c).before (1 : Fin 4) t0_0 d))
    ∗ (∃ d, stg c cc0_stg2_0 ((datOf m c).before (2 : Fin 4) t0_0 d)) ∗ (∃ d, stg c cc0_stg3_0 ((datOf m c).before (3 : Fin 4) t0_0 d)))

def after' (c : Dev nD) : sProp 𝕄 :=
  iprop(Φ₁ c ∗ (datOf m c).owesAt () t0_0.succ
    ∗ stg c cc0_stg0_0 (QB m c) ∗ stg c cc0_stg1_0 (KB m c) ∗ stg c cc0_stg2_0 (VB m c) ∗ stg c cc0_stg3_0 (OB m c))

omit [FloatOps F] in
theorem whole_set (b : Ref sig .tc) : (Memref.whole b).view.set = Finset.univ := (Memref.isWhole_whole b).set_eq_univ

theorem body_stage (c : Dev nD) : before' m c ⊢ wp frame (wpE (defs₀ (F := F)) 𝒱₀ (c : Thread nD τ) none) Set.univ
    (cc0_body (F := F) qM (Memref.isWhole_whole _) kM (Memref.isWhole_whole _) vM (Memref.isWhole_whole _) oM (Memref.isWhole_whole _)
      ckM (Memref.isWhole_whole _) cvM (Memref.isWhole_whole _) cc0_scratch2 cc0_scratch3 cc0_scratch4 cc0_scratch5) (fun _ => after' m c) := by
  have hpre (K : GSem nD τ sig → ℕ) (W : Waits sig Unit) :
      iprop(opened m K c ∗ levAts L lv ∗ pair2 c ∗ stg c cc0_stg0_0 (QB m c) ∗ stg c cc0_stg1_0 (KB m c) ∗ stg c cc0_stg2_0 (VB m c)
        ∗ (∃ X, stg c cc0_stg3_0 X) ∗ owes (c : Thread nD τ) (O₀ c) W) ⊢ bodyPre m K c W := by
    unfold bodyPre pair2
    rw [whole_set, whole_set, whole_set, whole_set, whole_set, whole_set]
    iintro ⟨H1, H2, ⟨H3, H4⟩, ⟨%f5, %h5, H5⟩, ⟨%f6, %h6, H6⟩, ⟨%f7, %h7, H7⟩, ⟨%X8, %f8, -, H8⟩, H9⟩
    subst h5 h6 h7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists f8; iexact H8
    iexact H9
  have hpost : iprop(bodyPost m c ∗ ∃ r, prngReg c r) ⊢ after' m c := by
    unfold bodyPost Trip after' Φ₁ Yk pair2
    rw [whole_set, whole_set, whole_set, whole_set, whole_set, whole_set]
    iintro ⟨⟨⟨Hb, Hs⟩, ⟨H1, H2, H3, H4, H5, H6⟩, ⟨%W, HO⟩⟩, Hp⟩
    isplitl [Hb Hs H4 H5 Hp]
    · isplitl [H4 H5]
      · isplitl [H4]
        · iexists _; iexact H4
        · iexists _; iexact H5
      isplitl [Hp]; · iexact Hp
      isplitl [Hs]; · iexact Hs
      iexact Hb
    isplitl [HO]; · iapply (owes_in (datOf m c) t0_0.succ 0 (owed_last m c) rfl W); iexact HO
    isplitl [H1]; · iexists _; isplitr; · (ipureintro; rfl)
                    iexact H1
    isplitl [H2]; · iexists _; isplitr; · (ipureintro; rfl)
                    iexact H2
    isplitl [H3]; · iexists _; isplitr; · (ipureintro; rfl)
                    iexact H3
    iexists _; isplitr; · (ipureintro; rfl)
    iexact H6
  have e0 (d) : (datOf m c).before (0 : Fin 4) t0_0 d = QB m c := before_0 m (datOf m c) rfl (fun _ => rfl) t0_0 d
  have e1 (d) : (datOf m c).before (1 : Fin 4) t0_0 d = KB m c := before_1 m (datOf m c) rfl (fun _ => rfl) t0_0 d
  have e2 (d) : (datOf m c).before (2 : Fin 4) t0_0 d = VB m c := before_2 m (datOf m c) rfl (fun _ => rfl) t0_0 d
  unfold before' Φ₀ Xk
  simp only [e0, e1, e2]
  iintro ⟨⟨Hst, Hp, ⟨%K, Hop⟩, Hlev⟩, HO, ⟨%d0, H0⟩, ⟨%d1, H1⟩, ⟨%d2, H2⟩, ⟨%d3, H3⟩⟩
  ihave HO' := (owes_out (datOf m c) t0_0.castSucc (O₀ c) (owed_first m c)) $$ HO
  icases HO' with ⟨%W, HO⟩
  iapply (body_run m K c W (fun _ => after' m c))
  isplitr [Hp]
  · iapply (hpre K W)
    isplitl [Hop]; · iexact Hop
    isplitl [Hlev]; · iexact Hlev
    isplitl [Hst]; · iexact Hst
    isplitl [H0]; · iexact H0
    isplitl [H1]; · iexact H1
    isplitl [H2]; · iexact H2
    isplitl [H3]; · iexists _; iexact H3
    iexact HO
  iintro H
  iapply hpost
  isplitl [H] <;> iassumption

set_option maxRecDepth 8000 in
/-- The body obligation. -/
theorem body_obl (c : Dev nD) : BodyObligation (datOf m c) (defs₀ (F := F)) 𝒱₀ () Set.univ := fun t => by
  obtain rfl := fin_N0 t
  rw [bigSep_W0, bigSep_W0]
  simp only [owns_whole_eq]
  exact body_stage m c

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : u ∈ L g ∧ 0 < lv g u := by
  unfold O₀ at h
  rw [Pi.add_apply, Finsupp.add_apply, Pi.add_apply, Finsupp.add_apply] at h
  have hb (d : Dev nD) (hd : 0 < (tallyAt (barCell d) () 1 : CellTallies nD τ sig Unit) g u) : u ∈ L g ∧ 0 < lv g u := by
    rw [tallyAt_apply] at hd
    by_cases e : g = barCell d ∧ u = ()
    · obtain ⟨rfl, -⟩ := e
      exact ⟨by rw [L_tc]; exact Finset.mem_singleton_self _, by rw [lv_bar]; decide⟩
    · rw [if_neg e] at hd; exact absurd hd (Nat.lt_irrefl 0)
  rcases Nat.add_pos_iff_pos_or_pos.mp h with h | h
  · rcases Nat.add_pos_iff_pos_or_pos.mp h with h | h
    · obtain ⟨i, -, rfl⟩ := rest_pos h
      exact ⟨by rw [L_tc]; exact Finset.mem_singleton_self _, by rw [lv_rcv]; omega⟩
    · exact hb _ h
  · exact hb _ h

theorem cutD (c : Dev nD) (t : Fin ((Pipeline.pin (pcfgs (F := F)) adm 0).N + 1)) (g : GSem nD τ sig) (u : Unit) (h : 0 < (pdats m 0 c).owed t g u) :
    u ∈ L g ∧ (0 : ℕ) < lv g u := by
  rw [show (pdats m 0 c).owed t = if t.val = 0 then O₀ c else 0 from rfl] at h
  split at h
  · exact O₀_pos h
  · exact absurd h (Nat.lt_irrefl 0)

/-- The device's buffers that no kernel scopes, and those no window stages. -/
abbrev bufs : Finset (DevRef τ sig) := Pipeline.ucRefs τ sig
abbrev others : Finset (DevRef τ sig) := bufs \ Pipeline.arrRefs (τ := τ) spec0

/-- The buffers once the region has run. -/
abbrev VR (c : Dev nD) : Valuation τ sig (Elt F) := Function.update (V0 m c) (Proc.devRef .tc main_v7) (OB m c)

theorem arr_out (c : Dev nD) : (datOf m c).arrAt (3 : Fin 4) cfg0.N = OB m c :=
  (datOf m c).arrAt_eq_of_after_last (3 : Fin 4) t0_0 (by decide +kernel) (OB m c) (fun j => rfl)

theorem hW' (c : Dev nD) (w : Fin 4) : (datOf m c).arrAt w cfg0.N = VR m c (Proc.devRef .tc (Pipeline.arrRef spec0 w)) := by
  fin_cases w
  · exact ((datOf m c).arrAt_in (0 : Fin 4) rfl _).trans (Function.update_of_ne (show (Proc.devRef .tc (Pipeline.arrRef spec0 0) : DevRef τ sig) ≠ Proc.devRef .tc main_v7 from StableHlo.devRef_ne_of_ne (by decide)) (OB m c) (V0 m c)).symm
  · exact ((datOf m c).arrAt_in (1 : Fin 4) rfl _).trans (Function.update_of_ne (show (Proc.devRef .tc (Pipeline.arrRef spec0 1) : DevRef τ sig) ≠ Proc.devRef .tc main_v7 from StableHlo.devRef_ne_of_ne (by decide)) (OB m c) (V0 m c)).symm
  · exact ((datOf m c).arrAt_in (2 : Fin 4) rfl _).trans (Function.update_of_ne (show (Proc.devRef .tc (Pipeline.arrRef spec0 2) : DevRef τ sig) ≠ Proc.devRef .tc main_v7 from StableHlo.devRef_ne_of_ne (by decide)) (OB m c) (V0 m c)).symm
  · exact (arr_out m c).trans (Function.update_self (Proc.devRef .tc main_v7 : DevRef τ sig) (OB m c) (V0 m c)).symm

theorem hrest (c : Dev nD) : ∀ b ∈ others \ ∅, VR m c b = V0 m c b := fun b hb =>
  Function.update_of_ne (fun e => by
    subst e
    exact (Finset.mem_sdiff.mp (Finset.mem_sdiff.mp hb).1).2 (by decide)) _ _

theorem Φ_zero (c : Dev nD) : (pdats m 0 c).Φ 0 = Φ₀ m c := by
  show (if ((0 : Fin (cfg0.N + 1)).val = 0) then Φ₀ m c else Φ₁ c) = Φ₀ m c; exact if_pos rfl
theorem Φ_last (c : Dev nD) : (pdats m 0 c).Φ (Fin.last (Pipeline.pin (pcfgs (F := F)) adm 0).N) = Φ₁ c := by
  show (if (Fin.last cfg0.N).val = 0 then Φ₀ m c else Φ₁ c) = Φ₁ c
  rw [Fin.val_last, if_neg (by rw [show cfg0.N = 1 from N_0]; decide)]

theorem hin (c : Dev nD) : iprop(Pipeline.scopedRest (Pipeline.pin (pcfgs (F := F)) adm 0).spec c ∗ (∃ r, prngReg c r)
    ∗ StableHlo.held (c.tc : Thread nD τ) ∅ (V0 m c) ∗ Xk m c) ⊢ (pdats m 0 c).Φ 0 := by
  rw [Φ_zero]
  unfold Φ₀ pair2
  rw [show (Pipeline.scopedRest (Ix := Unit) (Name := ℕ) (U := UU) (Lvl := ℕ) (Val := Elt F) (Pipeline.pin (pcfgs (F := F)) adm 0).spec c : sProp 𝕄) = _ from scopedRest0_eq c]
  iintro ⟨Hs, Hp, -, HX⟩
  isplitl [Hs]; · iexact Hs
  isplitl [Hp]; · iexact Hp
  iexact HX

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (VR m c) ∗ Pipeline.ownSems0 osem c ∗ Yk c) := by
  rw [Φ_last, own_sems, own_sems_ends]
  unfold Φ₁ pair2
  rw [show (Pipeline.scopedRest (Ix := Unit) (Name := ℕ) (U := UU) (Lvl := ℕ) (Val := Elt F) (Pipeline.pin (pcfgs (F := F)) adm 0).spec c : sProp 𝕄) = _ from scopedRest0_eq c,
    show (StableHlo.held (c.tc : Thread nD τ) ∅ (VR m c) : sProp 𝕄) = BI.emp from BI.bigSep_empty]
  iintro ⟨Hs, Hp, Hv, HY⟩
  isplitl [Hs]; · iexact Hs
  isplitl [Hp]; · iexact Hp
  isplitr; · iempintro
  isplitl [Hv] <;> iassumption

theorem share_full (c : Dev nD) (w : Fin 4) : (datOf m c).share w = fullShare := by unfold Dat.share; split <;> rfl

local notation "ℝ𝕊" => Pipeline.RegionSeg (pcfgs (F := F)) adm (pdats m) () defs₀ 𝒱₀ L lv

theorem stage_role : ∀ (w : Fin 4) (s : Fin (cfg0.win w).nbuf), role (.dma ((cfg0.win w).sem s)) = none := by decide
theorem stage_low (c : Dev nD) (w : Fin 4) (s : Fin (cfg0.win w).nbuf) : lv ((c : Thread nD τ), .dma ((cfg0.win w).sem s)) () ≤ 0 := by
  dsimp only [lv]; rw [if_neg (dma_ne_bar _), stage_role]

theorem own_facts : Pipeline.OwnSemFacts spec0 osem := by decide

set_option backward.isDefEq.respectTransparency.types false in
def reg0 : ℝ𝕊 0 :=
  Pipeline.RegionSeg.ofTalk (pcfgs (F := F)) adm (pdats m) () defs₀ 𝒱₀ L lv 0 osem own_facts
    ∅ others (Finset.empty_subset _) kitP rfl (fun c => (body_obl m c).loose)
    (fun _ => 0) O₀ (fun c => (owed_zero m c).trans (zero_add _).symm) (owed_last m) (fun _ => rfl) (fun c w => share_full m c w)
    (V0 m) (VR m) (hrest m)
    (Tk m) Yk (Xk m) Yk (hopen m) (hin m) (hout m)
    (fun c => by iintro H; imodintro; iexact H)
    (fun _ => 0)
    ⟨fun c w s => by rw [L_tc]; exact Finset.mem_singleton_self _, fun c w s => stage_low c w s, fun c t g u h => cutD m c t g u h⟩
    (fun _ => iprop(emp))
    (fun _ _ => rfl) (fun c w => hW' m c w)

end Cert.KernelIdeal.Own

end
-- ==== Proof.KernelIdeal.Deal.lean ====
/- What the launch deals: every cell's invariant, every duty's token to the device that pays it, and every device's
   credit for the units that its neighbours owe it. -/
module

public import proofs.«01_k».proof.Proof.KernelIdeal.Region
public import Idealize.ShloMosaic.Lib.Pipeline.Regions

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The cells and the tokens -/

theorem osem_inj : Function.Injective osem := by decide

def barEmb : Dev nD ↪ GSem nD τ sig := ⟨barCell, fun _ _ h => congrArg (fun g : GSem nD τ sig => g.1.1) h⟩
def ownEmb : Dev nD × (Bool × Fin 6) ↪ GSem nD τ sig :=
  ⟨fun p => ownCell p.1 p.2, fun _ _ h => Prod.ext (congrArg (fun g : GSem nD τ sig => g.1.1) h) (osem_inj (congrArg Prod.snd h))⟩

/-- The barrier's cells, live from the start, and the copies' cells, which the region opens. -/
abbrev barCells : Finset (GSem nD τ sig) := Finset.univ.map barEmb
abbrev ownCells : Finset (GSem nD τ sig) := Finset.univ.map ownEmb

theorem cells_disjoint : Disjoint barCells ownCells := by
  rw [Finset.disjoint_left]
  intro g h₁ h₂
  obtain ⟨c, -, rfl⟩ := Finset.mem_map.mp h₁
  obtain ⟨p, -, h⟩ := Finset.mem_map.mp h₂
  exact dma_ne_bar _ (congrArg Prod.snd h)

/-- The duties: both of each barrier cell, one of each copy's cell. -/
abbrev barToks : Finset (GSem nD τ sig × ℕ × Bool) :=
  (Finset.univ : Finset (Dev nD × Bool)).map ⟨fun p => (barCell p.1, 0, p.2), fun _ _ h =>
    Prod.ext (congrArg (fun t : GSem nD τ sig × ℕ × Bool => t.1.1.1) h) (congrArg (fun t : GSem nD τ sig × ℕ × Bool => t.2.2) h)⟩
abbrev ownToks : Finset (GSem nD τ sig × ℕ × Bool) :=
  (Finset.univ : Finset (Dev nD × (Bool × Fin 6))).map ⟨fun p => (ownCell p.1 p.2, 0, true), fun _ _ h =>
    ownEmb.injective (congrArg (fun t : GSem nD τ sig × ℕ × Bool => t.1) h)⟩

theorem toks_disjoint : Disjoint barToks ownToks := by
  rw [Finset.disjoint_left]
  intro g h₁ h₂
  obtain ⟨p, -, rfl⟩ := Finset.mem_map.mp h₁
  obtain ⟨q, -, h⟩ := Finset.mem_map.mp h₂
  exact dma_ne_bar _ (congrArg (fun t : GSem nD τ sig × ℕ × Bool => t.1.2) h)

omit [FloatOps F] in
theorem sep_regroup (A B C D : sProp 𝕄) : iprop((A ∗ B) ∗ C ∗ D) = iprop(B ∗ A ∗ C ∗ D) := by
  refine BI.equiv_iff.mp ⟨show iprop((A ∗ B) ∗ C ∗ D) ⊢ iprop(B ∗ A ∗ C ∗ D) from ?_, show iprop(B ∗ A ∗ C ∗ D) ⊢ iprop((A ∗ B) ∗ C ∗ D) from ?_⟩
  · iintro ⟨⟨H1, H2⟩, H3⟩
    isplitl [H2]; · iexact H2
    isplitl [H1]; · iexact H1
    iexact H3
  · iintro ⟨H2, H1, H3⟩
    isplitl [H1 H2]
    · isplitl [H1] <;> iassumption
    iexact H3

omit [FloatOps F] in
/-- Every token reaches the device that pays with it. -/
theorem toks_dealt :
    bigSep (barToks ∪ ownToks) (fun t => (dutyTok ER t.1 t.2.1 t.2.2 : sProp 𝕄)) = bigSep Finset.univ fun c : Dev nD => duesOf c := by
  have hb : bigSep barToks (fun t => (dutyTok ER t.1 t.2.1 t.2.2 : sProp 𝕄))
      = iprop((bigSep Finset.univ fun c : Dev nD => dutyTok ER (barCell (nxt c)) 0 false) ∗ bigSep Finset.univ fun c : Dev nD => dutyTok ER (barCell (prv c)) 0 true) := by
    rw [bigSep_map]
    show bigSep Finset.univ (fun p : Dev nD × Bool => (dutyTok ER (barCell p.1) 0 p.2 : sProp 𝕄)) = _
    rw [bigSep_univ_prod, bigSep_congr fun c _ => bigSep_two _, bigSep_sep',
      bigSep_univ_equiv ring (fun c : Dev nD => (dutyTok ER (barCell c) 0 false : sProp 𝕄)),
      bigSep_univ_equiv gnir (fun c : Dev nD => (dutyTok ER (barCell c) 0 true : sProp 𝕄))]
    rfl
  have ho : bigSep ownToks (fun t => (dutyTok ER t.1 t.2.1 t.2.2 : sProp 𝕄))
      = iprop((bigSep Finset.univ fun c : Dev nD => bigSep Finset.univ fun i : Fin 6 => dutyTok ER (sndCell i c) 0 true)
          ∗ bigSep Finset.univ fun c : Dev nD => bigSep Finset.univ fun i : Fin 6 => dutyTok ER (rcvCell i (nxt c)) 0 true) := by
    rw [bigSep_map]
    show bigSep Finset.univ (fun p : Dev nD × (Bool × Fin 6) => (dutyTok ER (ownCell p.1 p.2) 0 true : sProp 𝕄)) = _
    rw [bigSep_univ_prod, bigSep_congr fun c _ => bigSep_ends _, bigSep_sep']
    show iprop((bigSep Finset.univ fun c : Dev nD => bigSep Finset.univ fun i : Fin 6 => (dutyTok ER (sndCell i c) 0 true : sProp 𝕄))
          ∗ bigSep Finset.univ fun c : Dev nD => bigSep Finset.univ fun i : Fin 6 => dutyTok ER (rcvCell i c) 0 true) = _
    rw [bigSep_univ_equiv ring (fun c : Dev nD => bigSep Finset.univ fun i : Fin 6 => (dutyTok ER (rcvCell i c) 0 true : sProp 𝕄))]
    rfl
  rw [bigSep_union toks_disjoint, hb, ho]
  unfold duesOf
  rw [bigSep_sep', bigSep_sep', bigSep_sep']
  exact (sep_regroup _ _ _ _)

/-! ## The credits -/

theorem rest_bar_zero (d c : Dev nD) : rest 0 d (barCell c) () = 0 := by
  by_contra h
  obtain ⟨i, -, e⟩ := rest_pos (Nat.pos_of_ne_zero h)
  exact dma_ne_bar _ (congrArg Prod.snd e).symm

theorem bar_tally (d c : Dev nD) : (tallyAt (barCell d) () 1 : CellTallies nD τ sig Unit) (barCell c) () = if c = d then 1 else 0 := by
  rw [tallyAt_apply]
  by_cases h : c = d
  · subst h; rw [if_pos ⟨rfl, rfl⟩, if_pos rfl]
  · rw [if_neg (fun e => h (congrArg (fun g : GSem nD τ sig => g.1.1) e.1)), if_neg h]

theorem owed_bar (d c : Dev nD) : O₀ d (barCell c) () = (if d = prv c then 1 else 0) + if d = nxt c then 1 else 0 := by
  unfold O₀
  rw [Pi.add_apply, Finsupp.add_apply, Pi.add_apply, Finsupp.add_apply, rest_bar_zero, bar_tally, bar_tally, Nat.zero_add]
  have h₁ : (c = nxt d) = (d = prv c) := propext ⟨fun e => by rw [e, prv_nxt], fun e => by rw [e, nxt_prv]⟩
  have h₂ : (c = prv d) = (d = nxt c) := propext ⟨fun e => by rw [e, nxt_prv], fun e => by rw [e, prv_nxt]⟩
  simp only [h₁, h₂]

theorem rcv_inj : Function.Injective rcvS := by decide

theorem owed_rcv (i : Fin 6) (d c : Dev nD) : O₀ d (rcvCell i c) () = if d = prv c then N else 0 := by
  unfold O₀
  have hb (e : Dev nD) : (tallyAt (barCell e) () 1 : CellTallies nD τ sig Unit) (rcvCell i c) () = 0 := by
    rw [tallyAt_apply, if_neg (fun h => dma_ne_bar _ (congrArg Prod.snd h.1))]
  rw [Pi.add_apply, Finsupp.add_apply, Pi.add_apply, Finsupp.add_apply, hb, hb]
  show rest 0 d (rcvCell i c) () = _
  unfold rest
  rw [Finset.filter_true_of_mem (fun i _ => Nat.zero_le _), Finset.sum_apply, Finsupp.finset_sum_apply]
  have hs (k : Fin 6) : (tallyAt (rcvCell k (nxt d)) () N : CellTallies nD τ sig Unit) (rcvCell i c) () = if k = i then (if d = prv c then N else 0) else 0 := by
    rw [tallyAt_apply]
    by_cases hk : k = i
    · subst hk
      rw [if_pos rfl]
      by_cases h : d = prv c
      · subst h; rw [nxt_prv, if_pos ⟨rfl, rfl⟩, if_pos rfl]
      · rw [if_neg (fun e => h (by rw [show c = nxt d from congrArg (fun g : GSem nD τ sig => g.1.1) e.1, prv_nxt])), if_neg h]
    · rw [if_neg (fun e => hk (rcv_inj (SemLoc.dma.inj (congrArg Prod.snd e.1))).symm), if_neg hk]
  rw [Finset.sum_congr rfl fun k _ => hs k, Finset.sum_ite_eq' Finset.univ i, if_pos (Finset.mem_univ _)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_rcv (i : Fin 6) (c : Dev nD) :
    tallyOn (rcvCell i c) (launchCredit (Pipeline.owing O₀) 0 (rcvCell i c)) = (tallyAt (rcvCell i c) () N : CellTallies nD τ sig Unit) := by
  unfold tallyAt; refine congrArg _ (Finsupp.ext fun u => ?_); cases u
  rw [Pipeline.launchCredit_owing, Finsupp.single_eq_same, Finset.sum_congr rfl fun d _ => owed_rcv i d c,
    Finset.sum_ite_eq' Finset.univ (prv c) fun _ => N, if_pos (Finset.mem_univ _)]

def rcvEmb : Fin 6 ↪ SemLoc sig := ⟨fun i => .dma (rcvS i), fun _ _ h => rcv_inj (SemLoc.dma.inj h)⟩

omit [FloatOps F] in
theorem creds_dealt (c : Dev nD) : (Pipeline.launchCred O₀ c : sProp 𝕄) ⊢ credsOf c := by
  unfold Pipeline.launchCred credsOf
  rw [bigSep_univ_at _ (SemLoc.reg barS), launch_bar]
  refine sep_mono_right ?_
  have hsub : Finset.univ.map rcvEmb ⊆ Finset.univ.erase (SemLoc.reg barS : SemLoc sig) := fun sm h => by
    obtain ⟨i, -, rfl⟩ := Finset.mem_map.mp h
    exact Finset.mem_erase.mpr ⟨dma_ne_bar _, Finset.mem_univ _⟩
  have e : bigSep (Finset.univ.map rcvEmb) (fun sm => (cred (tallyOn ((c.tc : Thread nD τ), sm) (launchCredit (Pipeline.owing O₀) 0 ((c.tc : Thread nD τ), sm))) : sProp 𝕄))
      = bigSep Finset.univ fun i : Fin 6 => cred (tallyAt (rcvCell i c) () N) := by
    rw [bigSep_map]
    exact bigSep_congr fun i _ => by rw [← launch_rcv]; rfl
  rw [← e]
  exact bigSep_subset hsub

/-! ## The launch element, and what it makes -/

/-- The launch element: the pipeline library's part beside the ring's. -/
def u₀ : UU :=
  (initOf (Pipeline.cells (Pipeline.pin (pcfgs (F := F)) adm) cellOf_inj) (Pipeline.launchToks (Pipeline.pin (pcfgs (F := F)) adm) cellOf_inj),
    launchOf barCells ownCells (barToks ∪ ownToks))

/-- The ring's part, kept whole by device 0 until every device's state is made. -/
def G (c : Dev nD) : sProp 𝕄 := if c = 0 then BI.own (ER (launchOf barCells ownCells (barToks ∪ ownToks))) else iprop(emp)

omit [FloatOps F] in
theorem G_all : bigSep Finset.univ (G (F := F)) = (BI.own (ER (launchOf barCells ownCells (barToks ∪ ownToks))) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem invs_of (κ : GSem nD τ sig → ℕ) :
    iprop((bigSep (barCells ∪ ownCells) fun g => cellInv ER (sched m) (κ g) g) ∗ bigSep barCells fun g => reached ER g 0) ⊢ (invs m κ : sProp 𝕄) := by
  have e : (bigSep (barCells ∪ ownCells) fun g => (cellInv ER (sched m) (κ g) g : sProp 𝕄))
      = iprop((bigSep Finset.univ fun c : Dev nD => cellInv ER (sched m) (κ (barCell c)) (barCell c))
        ∗ bigSep Finset.univ fun p : Dev nD × (Bool × Fin 6) => cellInv ER (sched m) (κ (ownCell p.1 p.2)) (ownCell p.1 p.2)) := by
    rw [bigSep_union cells_disjoint, bigSep_map, bigSep_map]; rfl
  rw [e, bigSep_map]
  unfold invs
  iintro ⟨⟨H1, H2⟩, H3⟩
  isplitl [H1]; · iexact H1
  isplitl [H2]; · iexact H2
  iexact H3

/-- From the barrier's counters and the launch element: every device's part of the protocol but its credits. -/
theorem protocol_made :
    iprop((bigSep Finset.univ fun c : Dev nD => semVal (barCell c) 0) ∗ bigSep Finset.univ (G (F := F)))
      ⊢ (|={Set.univ}=> ∃ κ, invs m κ
        ∗ (bigSep Finset.univ fun c : Dev nD => iprop(atPos ER (barCell c) 0 ∅ 0 ∗ bigSep Finset.univ fun k : Bool × Fin 6 => openTok ER (ownCell c k)))
        ∗ bigSep Finset.univ fun c : Dev nD => duesOf c : sProp 𝕄) := by
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have hat : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have hop : bigSep ownCells (fun g => (openTok ER g : sProp 𝕄))
      = bigSep Finset.univ (fun c : Dev nD => bigSep Finset.univ fun k : Bool × Fin 6 => (openTok ER (ownCell c k) : sProp 𝕄)) := by
    rw [bigSep_map, bigSep_univ_prod]; rfl
  rw [hv, G_all]
  iintro ⟨Hv, Hu⟩
  imod (Rounds.fund_launch ER (sched m) cells_disjoint (fun g _ h => h) (barToks ∪ ownToks)) $$ [Hv Hu] with ⟨%κ, -, Hinv, Hr, Hat, Hopen, Htok⟩
  · isplitl [Hv] <;> iassumption
  imodintro
  iexists κ
  isplitl [Hinv Hr]
  · iapply (invs_of m κ)
    isplitl [Hinv] <;> iassumption
  isplitl [Hat Hopen]
  · iapply (Entails.of_eq (bigSep_sep' _ _ _).symm)
    isplitl [Hat]
    · iapply (Entails.of_eq hat); iexact Hat
    · iapply (Entails.of_eq hop); iexact Hopen
  · iapply (Entails.of_eq toks_dealt); iexact Htok

end Cert.KernelIdeal.Own

end
-- ==== Proof.KernelIdeal.Run.lean ====
/- The run of the whole program: the host lines before the kernel, the kernel's region, the host lines after it. -/
module

public import proofs.«01_k».proof.Proof.KernelIdeal.Deal

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

local notation "ℍ𝕊" => Pipeline.HostSeg (Name := ℕ) (U := UU) (pcfgs (F := F)) defs₀ 𝒱₀ L lv

/-- What rides along before the region, and after it. -/
def R₀ (c : Dev nD) : sProp 𝕄 := iprop(Tk m c ∗ (∃ r, prngReg c r) ∗ ∃ W, owes (c : Thread nD τ) (O₀ c) W)
def R₁ (c : Dev nD) : sProp 𝕄 := iprop(semVal (barCell c) 0 ∗ ∃ W, owes (c : Thread nD τ) (0 : CellTallies nD τ sig Unit) W)

def seg0 : ℍ𝕊 :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (fun c b => m (c, b)) (R₀ m)

def seg1 : ℍ𝕊 :=
  Pipeline.HostSeg.ofOps _ _ _ _ _ bufs hostOps1
    (fun op h => Pipeline.sub_ucRefs op (List.forall_iff_forall_mem.mp hostOps1_sub op h))
    (fun op h => List.forall_iff_forall_mem.mp hostOps1_fresh op h) (VR m) R₁

theorem arr_sub : Pipeline.arrRefs (τ := τ) spec0 ⊆ bufs := Pipeline.arrRefs_sub_ucRefs spec0 (by decide)

theorem held_parts (c : Dev nD) (W : Valuation τ sig (Elt F)) :
    (StableHlo.held (c.tc : Thread nD τ) bufs W : sProp 𝕄)
      = iprop(StableHlo.held (c.tc : Thread nD τ) (Pipeline.arrRefs (τ := τ) spec0) W ∗ StableHlo.held (c.tc : Thread nD τ) others W) :=
  StableHlo.held_sub_split _ arr_sub W

theorem reg0_pre (c : Dev nD) : iprop(StableHlo.held (c.tc : Thread nD τ) bufs (V0 m c) ∗ R₀ m c) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) others (V0 m c) ∗ emp) ∗ Tk m c ∗ ∃ Wd, owes (c : Thread nD τ) (0 + O₀ c) Wd)
  rw [zero_add, held_parts]
  unfold R₀
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg0_post (c : Dev nD) : (reg0 m).post c ⊢ iprop(StableHlo.held (c.tc : Thread nD τ) bufs (VR m c) ∗ R₁ c) := by
  show iprop(StableHlo.held (c.tc : Thread nD τ) (Pipeline.arrRefs (τ := τ) spec0) (VR m c) ∗ (∃ r, prngReg c r)
    ∗ (StableHlo.held (c.tc : Thread nD τ) others (VR m c) ∗ emp) ∗ Yk c ∗ ∃ Wd, owes (c : Thread nD τ) (0 : CellTallies nD τ sig Unit) Wd) ⊢ _
  rw [held_parts]
  unfold R₁ Yk
  iintro ⟨Ha, -, ⟨Ho, -⟩, Hb, HO⟩
  isplitl [Ha Ho]
  · isplitl [Ha] <;> iassumption
  isplitl [Hb] <;> iassumption

def segs : List (Pipeline.Seg (pcfgs (F := F)) adm (pdats m) () defs₀ 𝒱₀ L lv) := [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

/-- The state a device starts from, and the one it ends in. -/
abbrev T₀ (c : Dev nD) : sProp 𝕄 := iprop(StableHlo.held (c.tc : Thread nD τ) bufs (fun b => m (c, b)) ∗ R₀ m c)
abbrev Tₙ (c : Dev nD) : sProp 𝕄 := iprop(StableHlo.held (c.tc : Thread nD τ) bufs (StableHlo.after hostOps1 (VR m c)) ∗ semVal (barCell c) 0)

omit [FloatOps F] in
theorem barrier_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings, the protocol's part apart. -/
def bundle (c : Dev nD) : sProp 𝕄 :=
  iprop(StableHlo.held (c.tc : Thread nD τ) bufs (fun b => m (c, b)) ∗ credsOf c ∗ owes (c : Thread nD τ) (O₀ c) ∅ ∗ ∃ r, prngReg c r)

theorem T₀_intro (κ : GSem nD τ sig → ℕ) (c : Dev nD) :
    iprop(invs m κ ∗ ((atPos ER (barCell c) 0 ∅ 0 ∗ bigSep Finset.univ fun k : Bool × Fin 6 => openTok ER (ownCell c k)) ∗ duesOf c) ∗ bundle m c) ⊢ T₀ m c := by
  unfold bundle T₀ R₀ Tk
  iintro ⟨#HI, ⟨Hl, Hd⟩, Hh, Hc, HO, Hp⟩
  isplitl [Hh]; · iexact Hh
  isplitl [Hl Hd Hc]
  · isplitr; · iexists κ; iexact HI
    isplitl [Hl]; · iexact Hl
    isplitl [Hd] <;> iassumption
  isplitl [Hp]; · iexact Hp
  iexists ∅; iexact HO

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c.tc : Thread nD τ).loc b)) = (StableHlo.held (c.tc : Thread nD τ) bufs (fun b => m (c, b)) : sProp 𝕄)
      from Pipeline.unscopedBufs_held c (fun b => m (c, b)), barrier_sems]
    unfold bundle
    iintro ⟨Hh, Hus, HO, Hcr, Hp, HG⟩
    ihave Hc := (creds_dealt (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ iprop((bigSep Finset.univ fun c : Dev nD => bundle m c) ∗ (bigSep Finset.univ fun c : Dev nD => (semVal (barCell c) 0 : sProp 𝕄)) ∗ bigSep Finset.univ (G (F := F))) := by
    rw [← bigSep_sep', ← bigSep_sep']
    exact bigSep_mono fun c _ => hcore c
  iintro ⟨H, -⟩
  ihave H' := hall $$ H
  icases H' with ⟨HB, HP⟩
  imod (protocol_made m) $$ HP with ⟨%κ, #HI, Hl, Hd⟩
  imodintro
  iapply (bigSep_with_persistent (R := invs m κ)
    (Φ := fun c => iprop(((atPos ER (barCell c) 0 ∅ 0 ∗ bigSep Finset.univ fun k : Bool × Fin 6 => openTok ER (ownCell c k)) ∗ duesOf c) ∗ bundle m c)) fun c _ => T₀_intro m κ c)
  isplitr; · iexact HI
  iapply (Entails.of_eq (bigSep_sep' _ _ _).symm)
  isplitl [Hl Hd]
  · iapply (Entails.of_eq (bigSep_sep' _ _ _).symm)
    isplitl [Hl] <;> iassumption
  · iexact HB

theorem unscoped_eq : ∀ sm : SemLoc sig, sm.isScoped .tc = false → sm = .reg barS := by decide

/-- The result that the run leaves in device `c`'s memory. -/
def res (c : Dev nD) : Buf (Elt F) ((c.tc : Thread nD τ).loc main_v9) := StableHlo.after hostOps1 (VR m c) (Proc.devRef .tc main_v9)

theorem after1_keeps (c : Dev nD) (b : Ref sig .tc) (h8 : b ≠ main_v8) (h9 : b ≠ main_v9) :
    StableHlo.after hostOps1 (VR m c) (Proc.devRef .tc b) = VR m c (Proc.devRef .tc b) :=
  StableHlo.after_of_forall_not_mem (b := Proc.devRef .tc b) _ _ (List.forall_iff_forall_mem.mp (by
    simp only [hostOps1, List.Forall, StableHlo.unary_writes, Finset.mem_singleton]
    exact ⟨StableHlo.devRef_ne_of_ne h8, StableHlo.devRef_ne_of_ne h9⟩))

theorem final_arg (c : Dev nD) (b : Ref sig .tc) (h7 : b ≠ main_v7) (h8 : b ≠ main_v8) (h9 : b ≠ main_v9) :
    StableHlo.after hostOps1 (VR m c) (Proc.devRef .tc b) = V m c b :=
  (after1_keeps m c b h8 h9).trans (Function.update_of_ne (StableHlo.devRef_ne_of_ne h7) _ _)

set_option backward.isDefEq.respectTransparency.types false in
/-- From any memory with zero counters every weakly fair execution of the program on the devices ends; at the end every
    device has its arguments as they were and `res` in its result, and every semaphore counter is zero. -/
theorem run_main : θ_run defs (onTc (τ := τ) (main (F := F))) (s₀ m ρ)
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v9) = res m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => reg0_post m c, fun c => ?_⟩
      show iprop(StableHlo.held (c.tc : Thread nD τ) bufs (StableHlo.after hostOps1 (VR m c)) ∗ R₁ c)
        ⊢ iprop(Tₙ m c ∗ ∃ W, owes (c : Thread nD τ) (0 : CellTallies nD τ sig Unit) W)
      unfold R₁
      iintro ⟨Hh, Hb, HO⟩
      isplitr [HO]
      · isplitl [Hh] <;> iassumption
      · iexact HO)
    (hinit := init m ρ)
    (QY := fun c s => (∀ b ∈ bufs, s.mem (c, b) = StableHlo.after hostOps1 (VR m c) b) ∧ s.sem (barCell c) = 0)
    (hfin := fun c s' => by
      unfold Tₙ StableHlo.held
      iintro ⟨⟨Hh, Hb⟩, HSI⟩
      icombine HSI Hb gives %hb
      ihave Hr := (pointsTo_read_all bufs (fun b => ((c.tc : Thread nD τ).1, b)) (StableHlo.after hostOps1 (VR m c)) s') $$ [Hh HSI]
      · isplitl [Hh] <;> iassumption
      icases Hr with ⟨%hr, HSI⟩
      imodintro
      isplitr
      · ipureintro
        exact ⟨hr, by simpa using hb⟩
      iexact HSI)
    (hQ := fun s h hs => ⟨fun c => by
        have hb := (h c).1
        refine ⟨?_, ?_, ?_, ?_⟩
        · exact (hb (Proc.devRef .tc main_arg0) (by decide)).trans ((final_arg m c main_arg0 (by decide) (by decide) (by decide)).trans (V_main_arg0 m c))
        · exact (hb (Proc.devRef .tc main_arg1) (by decide)).trans ((final_arg m c main_arg1 (by decide) (by decide) (by decide)).trans (V_main_arg1 m c))
        · exact (hb (Proc.devRef .tc main_arg2) (by decide)).trans ((final_arg m c main_arg2 (by decide) (by decide) (by decide)).trans (V_main_arg2 m c))
        · exact hb (Proc.devRef .tc main_v9) (by decide),
      sem_eq_zero hs fun c sm hsm => by
        obtain rfl := unscoped_eq sm hsm
        exact (h c).2⟩)

end Cert.KernelIdeal.Own

end
-- ==== Proof.Values.Softmax.lean ====
/- Attention of one query over the extended reals: weighing the values and dividing once, or dividing every weight
   first, is the same number where the scores are real; and neither depends on the order of the keys. -/
module

public import Idealize.ShloMosaic.PureOps.Ideal

@[expose] public section

noncomputable section

namespace Cert.Values

open Idealize.ShloMosaic
open scoped BigOperators

variable {ι κ : Type} [Fintype ι] [Fintype κ]

/-- The greatest score. -/
def top (s : ι → EReal) : EReal := Finset.univ.fold max ⊥ s
/-- A key's weight before it is normalised. -/
def weight (s : ι → EReal) (k : ι) : EReal := Ideal.exp (s k - top s)
/-- The weights' sum. -/
def mass (s : ι → EReal) : EReal := ∑ k, weight s k
/-- The weighted values, divided once by the weights' sum. -/
def mix (s v : ι → EReal) : EReal := Ideal.div (∑ k, weight s k * v k) (mass s)
/-- The values under normalised weights. -/
def mixShares (s v : ι → EReal) : EReal := ∑ k, v k * Ideal.div (weight s k) (mass s)

theorem top_equiv (e : ι ≃ κ) (s : κ → EReal) : top (fun k => s (e k)) = top s := by
  unfold top
  rw [← Finset.map_univ_equiv e, Finset.fold_map]
  rfl

theorem weight_equiv (e : ι ≃ κ) (s : κ → EReal) (k : ι) : weight (fun k => s (e k)) k = weight s (e k) := by
  unfold weight
  rw [top_equiv e s]

theorem mass_equiv (e : ι ≃ κ) (s : κ → EReal) : mass (fun k => s (e k)) = mass s := by
  unfold mass
  simp only [weight_equiv e s]
  exact Equiv.sum_comp e (weight s)

/-- The keys may come in any order. -/
theorem mix_equiv (e : ι ≃ κ) (s v : κ → EReal) : mix (fun k => s (e k)) (fun k => v (e k)) = mix s v := by
  unfold mix
  rw [mass_equiv e s]
  simp only [weight_equiv e s]
  rw [Equiv.sum_comp e (fun k => weight s k * v k)]

/-- The greatest of real scores is one of them. -/
theorem top_real [Nonempty ι] (s : ι → EReal) (hs : ∀ k, ∃ x : ℝ, s k = x) : ∃ x : ℝ, top s = x := by
  classical
  have h (t : Finset ι) : t.fold max ⊥ s = ⊥ ∧ t = ∅ ∨ ∃ x : ℝ, t.fold max ⊥ s = x := by
    induction t using Finset.induction_on with
    | empty => exact .inl ⟨Finset.fold_empty, rfl⟩
    | insert a t ha ih =>
      obtain ⟨x, hx⟩ := hs a
      refine .inr ?_
      rw [Finset.fold_insert ha, hx]
      rcases ih with ⟨hb, _⟩ | ⟨y, hy⟩
      · rw [hb]; exact ⟨x, max_eq_left bot_le⟩
      · rw [hy]
        rcases le_total (x : EReal) y with h | h
        · exact ⟨y, max_eq_right h⟩
        · exact ⟨x, max_eq_left h⟩
  rcases h Finset.univ with ⟨_, he⟩ | h
  · exact absurd he Finset.univ_nonempty.ne_empty
  · exact h

/-- A weight of real scores is a positive real. -/
theorem weight_real [Nonempty ι] (s : ι → EReal) (hs : ∀ k, ∃ x : ℝ, s k = x) (k : ι) : ∃ x : ℝ, 0 < x ∧ weight s k = x := by
  obtain ⟨x, hx⟩ := hs k
  obtain ⟨y, hy⟩ := top_real s hs
  refine ⟨Real.exp (x - y), Real.exp_pos _, ?_⟩
  unfold weight
  rw [hx, hy, ← EReal.coe_sub]
  rfl

/-- A sum of real numbers is the real sum. -/
theorem sum_real (w : ι → ℝ) (t : Finset ι) : (∑ k ∈ t, (w k : EReal)) = ((∑ k ∈ t, w k : ℝ) : EReal) := by
  classical
  induction t using Finset.induction_on with
  | empty => rfl
  | insert a t ha ih => rw [Finset.sum_insert ha, Finset.sum_insert ha, ih, EReal.coe_add]

/-- So is their sum. -/
theorem mass_real [Nonempty ι] (s : ι → EReal) (hs : ∀ k, ∃ x : ℝ, s k = x) : ∃ x : ℝ, 0 < x ∧ mass s = x := by
  choose w hw hws using weight_real s hs
  refine ⟨∑ k, w k, Finset.sum_pos (fun k _ => hw k) Finset.univ_nonempty, ?_⟩
  unfold mass
  simp only [hws]
  exact sum_real w Finset.univ

/-- A nonnegative real factor goes through a sum. -/
theorem sum_mul_real (f : ι → EReal) (c : ℝ) (hc : 0 ≤ c) (t : Finset ι) : (∑ k ∈ t, f k) * (c : EReal) = ∑ k ∈ t, f k * (c : EReal) := by
  classical
  induction t using Finset.induction_on with
  | empty => rw [Finset.sum_empty, Finset.sum_empty, zero_mul]
  | insert a t ha ih =>
    rw [Finset.sum_insert ha, Finset.sum_insert ha, ← ih]
    exact EReal.right_distrib_of_nonneg_of_ne_top (EReal.coe_nonneg.mpr hc) (EReal.coe_ne_top c) _ _

/-- Dividing once, or every weight first. -/
theorem mix_eq_mixShares [Nonempty ι] (s v : ι → EReal) (hs : ∀ k, ∃ x : ℝ, s k = x) : mix s v = mixShares s v := by
  obtain ⟨l, hl, hm⟩ := mass_real s hs
  have hdiv (a : EReal) : Ideal.div a (l : EReal) = a * ((l⁻¹ : ℝ) : EReal) := by
    unfold Ideal.div
    rw [if_neg (by rw [← EReal.coe_zero, EReal.coe_eq_coe_iff]; exact hl.ne'), EReal.coe_inv]
  unfold mix mixShares
  rw [hm, hdiv, sum_mul_real _ _ (inv_nonneg.mpr hl.le)]
  refine Finset.sum_congr rfl fun k _ => ?_
  rw [hdiv, mul_comm (weight s k), mul_assoc]

/-! ## The constants -/

/-- The factor of the scores. -/
abbrev scale : EReal := Ideal.ofBits .f32 0x3DB504F3#32

theorem negInf : Ideal.ofBits .f32 0xFF800000#32 = ⊥ := by
  show Ideal.ieee 8 23 (0xFF800000#32 : BitVec 32) = ⊥
  unfold Ideal.ieee
  rw [if_pos (by decide), if_pos (by decide), if_pos (by decide)]

theorem posInf : Ideal.ofBits .f32 0x7F800000#32 = ⊤ := by
  show Ideal.ieee 8 23 (0x7F800000#32 : BitVec 32) = ⊤
  unfold Ideal.ieee
  rw [if_pos (by decide), if_pos (by decide), if_neg (by decide)]

theorem scale_real : ∃ x : ℝ, scale = x := by
  show ∃ x : ℝ, Ideal.ieee 8 23 (0x3DB504F3#32 : BitVec 32) = x
  unfold Ideal.ieee
  rw [if_neg (by decide), if_neg (by decide)]
  exact ⟨_, rfl⟩

/-- A score of real queries and keys is real. -/
theorem score_real {n : ℕ} (q k : Fin n → EReal) (hq : ∀ x, ∃ a : ℝ, q x = a) (hk : ∀ x, ∃ a : ℝ, k x = a) :
    ∃ a : ℝ, (∑ x, q x * k x) * scale = a := by
  choose a ha using hq
  choose b hb using hk
  obtain ⟨t, ht⟩ := scale_real
  refine ⟨(∑ x, a x * b x) * t, ?_⟩
  rw [EReal.coe_mul, ← sum_real, ht]
  refine congrArg (· * (t : EReal)) (Finset.sum_congr rfl fun x _ => ?_)
  rw [ha, hb, EReal.coe_mul]

/-- A value whose size is below infinity is real. -/
theorem real_of_abs_lt (x : EReal) (h : max x (-x) < ⊤) : ∃ a : ℝ, x = a := by
  induction x with
  | bot => rw [EReal.neg_bot] at h; exact absurd (le_max_right (⊥ : EReal) ⊤) (not_le.mpr h)
  | top => exact absurd (le_max_left (⊤ : EReal) (-⊤)) (not_le.mpr h)
  | coe a => exact ⟨a, rfl⟩

end Cert.Values

end
-- ==== Proof.Values.Kernel.lean ====
/- What the kernel leaves at an index of its result, over the extended reals: attention of one query over the keys of the
   four devices of its ring, the device's own first and then those of the devices before it. -/
module

public import proofs.«01_k».proof.Proof.KernelIdeal.Run
public import proofs.«01_k».proof.Proof.Values.Softmax
public import Idealize.ShloMosaic.Lib.Pointwise
public import Idealize.ShloMosaic.Lib.Pointwise.IndexBridge
public import Idealize.ShloMosaic.Lib.StableHlo.ReadAt

@[expose] public section

set_option maxRecDepth 16384

noncomputable section

namespace Cert.Values

open Cert.KernelIdeal Cert.KernelIdeal.Gen Cert.KernelIdeal.Own
open Idealize.ShloMosaic Idealize.ShloMosaic.TcCoe

/-- What a trip computes, at a row and a column. -/
theorem pay_apply (K V : FVec Ideal S4096x128 .bf16) (q : Vec Ideal S1x256x128 .bf16) (r : Fin 256) (d : Fin 128) :
    k0_pay7 K V q (ix3 0 r d) = mix (fun j : Fin 4096 => (∑ x : Fin 128, q (ix3 0 r x) * K (ix2 j x)) * scale) (fun j => V (ix2 j d)) := by
  pointwise [k0_pay7]
  rw [negInf]
  rfl

/-! ## What the trip's loads read -/

section Reads
variable (X : Blk Ideal) (Y : Stk Ideal) (k : Fin k0_t1_loop.trips) (h : Fin 16) (hk : k.val = h.val)
include hk

/-- Head `h` of a block. -/
theorem own_read (r : Fin 1024) (d : Fin 128) :
    kM.view.readAt (Elt Ideal) (Rect.unit (s := S16x1024x128) (k0_off1 k) S1x1024x128.size (k0_off1_inb k)).toLoadRect X (ix3 0 r d) = X (ix3 h r d) := by
  refine congrArg X (funext fun a => Fin.ext ?_)
  show k0_off1 k a + 1 * _ = _
  rw [congrFun (k0_off1_eq k) a]
  fin_cases a <;> simp [ix3] <;> omega

/-- Head `h` of a stack's slot. -/
theorem slot_read {off : Fin 4 → ℕ} (inb : ∀ a, off a + S1x1x1024x128.size a ≤ S3x16x1024x128.size a) (o : Fin 3)
    (he : off = ![o.val, k.val, 0, 0]) (r : Fin 1024) (d : Fin 128) :
    ckM.view.readAt (Elt Ideal) (Rect.unit (s := S3x16x1024x128) off S1x1x1024x128.size inb).toLoadRect Y (ix4 0 0 r d) = Y (ix4 o h r d) := by
  refine congrArg Y (funext fun a => Fin.ext ?_)
  show off a + 1 * _ = _
  rw [congrFun he a]
  fin_cases a <;> simp [ix4] <;> omega

/-- A block's 256 rows of head `h`. -/
theorem rows_read (b : Fin 4) (r : Fin 256) (d : Fin 128) :
    rowsAt X k b (ix3 0 r d) = X (ix3 h ⟨256 * b.val + r.val, by omega⟩ d) := by
  have go (b : Fin 4) {off : Fin 3 → ℕ} (inb : ∀ a, off a + S1x256x128.size a ≤ S16x1024x128.size a) (o : ℕ) (ho : o = 256 * b.val) (he : off = ![k.val, o, 0]) :
      qM.view.readAt (Elt Ideal) (Rect.unit (s := S16x1024x128) off S1x256x128.size inb).toLoadRect X (ix3 0 r d) = X (ix3 h ⟨256 * b.val + r.val, by omega⟩ d) := by
    refine congrArg X (funext fun a => Fin.ext ?_)
    show off a + 1 * _ = _
    rw [congrFun he a]
    fin_cases a <;> simp [ix3] <;> omega
  match b with
  | 0 => exact go 0 _ 0 rfl (k0_off5_eq k)
  | 1 => exact go 1 _ 256 rfl (k0_off6_eq k)
  | 2 => exact go 2 _ 512 rfl (k0_off7_eq k)
  | 3 => exact go 3 _ 768 rfl (k0_off8_eq k)

end Reads

/-- The four blocks that meet on a device, its own first. -/
def four (X X0 X1 X2 : Blk Ideal) (j : Fin 4096) : Blk Ideal :=
  if j.val < 1024 then X else if j.val < 2048 then X0 else if j.val < 3072 then X1 else X2

theorem joined_apply (a : Vec Ideal S1x1024x128 .bf16) (b c e : Vec Ideal S1x1x1024x128 .bf16) (j : Fin 4096) (d : Fin 128) :
    k0_pay3 a b c e (ix2 j d)
      = if j.val < 1024 then a (ix3 0 ⟨j.val % 1024, by omega⟩ d)
        else if j.val < 2048 then b (ix4 0 0 ⟨j.val % 1024, by omega⟩ d)
        else if j.val < 3072 then c (ix4 0 0 ⟨j.val % 1024, by omega⟩ d)
        else e (ix4 0 0 ⟨j.val % 1024, by omega⟩ d) := by
  have hj := j.isLt
  pointwise [k0_pay3]
  by_cases h0 : j.val < 1024
  · refine (dif_pos h0).trans ((congrArg a ?_).trans (if_pos h0).symm)
    congr 1; exact Fin.ext (show j.val = j.val % 1024 by omega)
  refine (dif_neg h0).trans (Eq.trans ?_ (if_neg h0).symm)
  by_cases h1 : j.val < 2048
  · refine (dif_pos (by omega)).trans ((congrArg b ?_).trans (if_pos h1).symm)
    congr 1; exact Fin.ext (show j.val - 1024 = j.val % 1024 by omega)
  refine (dif_neg (by omega)).trans (Eq.trans ?_ (if_neg h1).symm)
  by_cases h2 : j.val < 3072
  · refine (dif_pos (by omega)).trans ((congrArg c ?_).trans (if_pos h2).symm)
    congr 1; exact Fin.ext (show j.val - 1024 - 1024 = j.val % 1024 by omega)
  · refine (dif_neg (by omega)).trans ((congrArg e ?_).trans (if_neg h2).symm)
    congr 1; exact Fin.ext (show j.val - 1024 - 1024 - 1024 = j.val % 1024 by omega)

theorem keys_apply (X X0 X1 X2 : Blk Ideal) (k : Fin k0_t1_loop.trips) (h : Fin 16) (hk : k.val = h.val) (j : Fin 4096) (d : Fin 128) :
    keysAt X (full X0 X1 X2) k (ix2 j d) = four X X0 X1 X2 j (ix3 h ⟨j.val % 1024, by omega⟩ d) := by
  unfold keysAt
  refine (joined_apply _ _ _ _ j d).trans ?_
  rw [own_read X k h hk, slot_read (full X0 X1 X2) k h hk (k0_off2_inb k) 0 (k0_off2_eq k),
    slot_read (full X0 X1 X2) k h hk (k0_off3_inb k) 1 (k0_off3_eq k), slot_read (full X0 X1 X2) k h hk (k0_off4_inb k) 2 (k0_off4_eq k)]
  unfold four
  split_ifs <;> rfl

theorem vals_eq (X : Blk Ideal) (Y : Stk Ideal) (k : Fin k0_t1_loop.trips) : valsAt X Y k = keysAt X Y k := rfl

/-- One element of the output: softmax attention of its query row over the four blocks. -/
theorem out_apply (Q K V K0 K1 K2 V0 V1 V2 : Blk Ideal) (h : Fin 16) (r : Fin 1024) (d : Fin 128) :
    outAt Q K V (full K0 K1 K2) (full V0 V1 V2) (ix3 h r d)
      = mix (fun j : Fin 4096 => (∑ x : Fin 128, Q (ix3 h r x) * four K K0 K1 K2 j (ix3 h ⟨j.val % 1024, by omega⟩ x)) * scale)
          (fun j => four V V0 V1 V2 j (ix3 h ⟨j.val % 1024, by omega⟩ d)) := by
  refine (pay_apply _ _ _ ⟨r.val % 256, by omega⟩ d).trans ?_
  have hr := r.isLt
  congr 1
  · funext j
    congr 1
    refine Finset.sum_congr rfl fun x _ => congrArg₂ (· * ·) ((rows_read Q _ h rfl _ _ x).trans (congrArg Q ?_)) (keys_apply K K0 K1 K2 _ h rfl j x)
    congr 1
    exact Fin.ext (show 256 * (r.val / 256) + r.val % 256 = r.val by omega)
  · funext j
    exact keys_apply V V0 V1 V2 _ h rfl j d

/-! ## The blocks as the arguments, the result as the output -/

section Buffers
variable (m : (ℓ : Loc nD τ sig) → Buf (Elt Ideal) ℓ) (c : Dev nD) (h : Fin 16) (r : Fin 1024) (d : Fin 128)

/-- A device's three arguments. -/
abbrev argQ : S1x1024x16x128.Idx → EReal := m ((c.tc : Thread nD τ).loc main_arg0)
abbrev argK : S1x1024x16x128.Idx → EReal := m ((c.tc : Thread nD τ).loc main_arg1)
abbrev argV : S1x1024x16x128.Idx → EReal := m ((c.tc : Thread nD τ).loc main_arg2)

theorem query_apply : V m c main_v2 (ix3 h r d) = argQ m c (ix4 0 r h d) := by
  show StableHlo.after [_, _, _, _, _, _] _ _ _ = _
  after_reads_at
theorem key_apply : V m c main_v4 (ix3 h r d) = argK m c (ix4 0 r h d) := by
  show StableHlo.after [_, _, _, _, _, _] _ _ _ = _
  after_reads_at
theorem value_apply : V m c main_v6 (ix3 h r d) = argV m c (ix4 0 r h d) := by
  show StableHlo.after [_, _, _, _, _, _] _ _ _ = _
  after_reads_at

theorem QB_apply : QB m c (ix3 h r d) = argQ m c (ix4 0 r h d) := by
  refine Eq.trans (congrArg (V m c main_v2 : S16x1024x128.Idx → EReal) (funext fun a => Fin.ext ?_)) (query_apply m c h r d)
  fin_cases a <;> simp [ix3] <;> rfl
theorem KB_apply : KB m c (ix3 h r d) = argK m c (ix4 0 r h d) := by
  refine Eq.trans (congrArg (V m c main_v4 : S16x1024x128.Idx → EReal) (funext fun a => Fin.ext ?_)) (key_apply m c h r d)
  fin_cases a <;> simp [ix3] <;> rfl
theorem VB_apply : VB m c (ix3 h r d) = argV m c (ix4 0 r h d) := by
  refine Eq.trans (congrArg (V m c main_v6 : S16x1024x128.Idx → EReal) (funext fun a => Fin.ext ?_)) (value_apply m c h r d)
  fin_cases a <;> simp [ix3] <;> rfl

theorem res_out : res m c (ix4 0 r h d) = OB m c (ix3 h r d) := by
  show StableHlo.after [_, _] _ _ _ = _
  after_reads_at
  exact congrFun (Function.update_self (Proc.devRef .tc main_v7) (OB m c) (V0 m c)) (ix3 h r d)

/-- The device whose keys stand at place `j`: the device itself, then the three before it in its ring. -/
def src (j : Fin 4096) : Dev nD :=
  if j.val < 1024 then c else if j.val < 2048 then prv c else if j.val < 3072 then prv (prv c) else prv (prv (prv c))

theorem four_src (B : Dev nD → Blk Ideal) (j : Fin 4096) : four (B c) (B (prv c)) (B (prv (prv c))) (B (prv (prv (prv c)))) j = B (src c j) := by
  unfold four src
  split_ifs <;> rfl

/-- A device's result at an index. -/
theorem res_apply :
    res m c (ix4 0 r h d)
      = mix (fun j : Fin 4096 => (∑ x : Fin 128, argQ m c (ix4 0 r h x) * argK m (src c j) (ix4 0 ⟨j.val % 1024, by omega⟩ h x)) * scale)
          (fun j => argV m (src c j) (ix4 0 ⟨j.val % 1024, by omega⟩ h d)) := by
  refine (res_out m c h r d).trans ((out_apply (QB m c) (KB m c) (VB m c) _ _ _ _ _ _ h r d).trans ?_)
  congr 1
  · funext j
    congr 1
    refine Finset.sum_congr rfl fun x _ => ?_
    rw [QB_apply, four_src c (KB m), KB_apply]
  · funext j
    rw [four_src c (VB m), VB_apply]

end Buffers

end Cert.Values

end
-- ==== Proof.Values.Reference.lean ====
/- The reference's result at an index, over the extended reals. -/
module

public import proofs.«01_k».proof.Proof.Gen.ReferenceIdeal.Run
public import proofs.«01_k».proof.Proof.Values.Softmax
public import Idealize.ShloMosaic.Lib.Pointwise

@[expose] public section

set_option maxRecDepth 16384

noncomputable section

namespace Cert.Values.Reference

open Cert.ReferenceIdeal Cert.ReferenceIdeal.Gen
open Idealize.ShloMosaic Idealize.ShloMosaic.TcCoe Cert.ReferenceIdeal.Facts Idealize.SL.Sem

/-- The scaled scores. -/
abbrev score (q k : FVec Ideal S1x4096x16x128 .bf16) : FVec Ideal S1x16x4096x4096 .f32 :=
  mulf (Host.dotGeneral dot_S1x4096x16x128_S1x4096x16x128_S1x16x4096x4096_3_3_1_1_02_02 none (extf .f32 q bitsLt_bf16_f32) (extf .f32 k bitsLt_bf16_f32)) (broadcastInDim S1x16x4096x4096 ![] bcast_S_S1x16x4096x4096 (constant S_ .f32 0x3DB504F3#32))

/-- The exponentials of the scores less their row's greatest. -/
abbrev ex (q k : FVec Ideal S1x4096x16x128 .bf16) : FVec Ideal S1x16x4096x4096 .f32 :=
  Host.exp (subf (score q k) (broadcastInDim S1x16x4096x4096 ![0, 1, 2, 3] bcast_S1x16x4096x1_S1x16x4096x4096_0_1_2_3 (broadcastInDim S1x16x4096x1 ![0, 1, 2] bcast_S1x16x4096_S1x16x4096x1_0_1_2 (Host.reduce FloatOps.maximumf (score q k) (constant S_ .f32 0xFF800000#32) reducesTo_S1x16x4096x4096_S1x16x4096_d3 h_S_))))

/-- The composed term. -/
def out (q k v : FVec Ideal S1x4096x16x128 .bf16) : FVec Ideal S1x4096x16x128 .f32 :=
  transpose S1x4096x16x128 [0, 3, 1, 2] (Host.dotGeneral dot_S1x4096x16x128_S1x16x4096x4096_S1x16x128x4096_1_3_3_2_02_01 none (extf .f32 v bitsLt_bf16_f32) (Host.divf (ex q k) (broadcastInDim S1x16x4096x4096 ![0, 1, 2, 3] bcast_S1x16x4096x1_S1x16x4096x4096_0_1_2_3 (broadcastInDim S1x16x4096x1 ![0, 1, 2] bcast_S1x16x4096_S1x16x4096x1_0_1_2 (Host.reduceAdd (ex q k) (constant S_ .f32 0x00000000#32) reducesTo_S1x16x4096x4096_S1x16x4096_d3 h_S_))))) transposes_S1x16x128x4096_S1x4096x16x128_0_3_1_2

/-- The reference's result at an index: attention of one query over all keys, every weight divided first. -/
theorem out_at (q k v : FVec Ideal S1x4096x16x128 .bf16) (p : Fin 4096) (h : Fin 16) (d : Fin 128) :
    out q k v (ix4 0 p h d)
      = mixShares (fun j : Fin 4096 => (∑ x : Fin 128, q (ix4 0 p h x) * k (ix4 0 j h x)) * scale) (fun j => v (ix4 0 j h d)) := by
  pointwise [out]
  rw [negInf]
  rfl

/-- The reference run: its result is `out` of its arguments. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v16)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.Values.Reference

end
-- ==== Proof.Values.Equation.lean ====
/- The kernel's result on every device is that device's block of the reference's result, where the queries and the keys
   are finite. -/
module

public import proofs.«01_k».proof.Proof.Values.Kernel
public import proofs.«01_k».proof.Proof.Values.Reference
public import proofs.«01_k».proof.Pre_finite_qk_KernelIdeal
public import proofs.«01_k».proof.Pre_finite_qk_ReferenceIdeal
public import Idealize.ShloMosaic.Lib.Layout

@[expose] public section

set_option maxRecDepth 16384

noncomputable section

namespace Cert.Values

open Cert.KernelIdeal Cert.KernelIdeal.Own
open Idealize.ShloMosaic Idealize.ShloMosaic.TcCoe

/-- The precondition's side conditions. -/
theorem pre_kernel : Cert.Pre_finite_qk_KernelIdeal.Facts where
  bitsLt_bf16_f32 := by decide
  bcast_S_S1x1024x16x128 := by decide
theorem pre_reference : Cert.Pre_finite_qk_ReferenceIdeal.Facts where
  bitsLt_bf16_f32 := by decide
  bcast_S_S1x4096x16x128 := by decide

attribute [local instance] pre_kernel

/-- What the precondition says of a query and of a key. -/
theorem finite_at (q k v : S1x1024x16x128.Idx → EReal) (hf : Cert.Pre_finite_qk_KernelIdeal.fn (F := Ideal) q k v = fun _ => 1#1)
    (r : Fin 1024) (h : Fin 16) (d : Fin 128) : (∃ a : ℝ, q (ix4 0 r h d) = a) ∧ ∃ a : ℝ, k (ix4 0 r h d) = a := by
  have e := congrFun hf (ix4 0 r h d)
  revert e
  pointwise [Cert.Pre_finite_qk_KernelIdeal.fn]
  rw [posInf]
  intro e
  have both (a b : Bool) (e : IntOp.andi (BitVec.ofBool a) (BitVec.ofBool b) = 1#1) : a = true ∧ b = true := by
    revert a b; decide
  obtain ⟨hq, hk⟩ := both _ _ e
  exact ⟨real_of_abs_lt _ (of_decide_eq_true hq), real_of_abs_lt _ (of_decide_eq_true hk)⟩

/-- The whole arrays' shape. -/
abbrev S4 : Shape := ⟨4, ![1, 4096, 16, 128]⟩

/-- Device `c`'s block of a whole array. -/
abbrev part (c : Dev nD) (A : S4.Idx → EReal) : S1x1024x16x128.Idx → EReal :=
  Layout.blockN ⟨4, ![1, 1024, 16, 128]⟩ ⟨4, ![1, 4096, 16, 128]⟩ (Layout.meshBlock [2, 4, 4] ![[], [1], [], []] c) A

theorem part_apply (c : Dev nD) (A : S4.Idx → EReal) (r : Fin 1024) (h : Fin 16) (d : Fin 128) :
    part c A (ix4 0 r h d) = A (ix4 0 ⟨1024 * (c.val / 4 % 4) + r.val, by omega⟩ h d) := by
  refine congrArg A (funext fun a => Fin.ext ?_)
  fin_cases a
  · simp [ix4, Layout.meshLin, Layout.cutSize, Layout.meshCoord, Layout.TilesN.idx_val]
  · simp [ix4, Layout.meshLin, Layout.cutSize, Layout.meshCoord, Layout.TilesN.idx_val]
    omega
  · simp [ix4, Layout.meshLin, Layout.cutSize, Layout.meshCoord, Layout.TilesN.idx_val]
  · simp [ix4, Layout.meshLin, Layout.cutSize, Layout.meshCoord, Layout.TilesN.idx_val]

/-- Where the key that a device of ring place `y` has at place `j` stands in the whole array. -/
def place (y : Fin 4) (j : Fin 4096) : Fin 4096 := ⟨1024 * ((y.val + 4 - j.val / 1024) % 4) + j.val % 1024, by omega⟩

theorem place_place (y : Fin 4) (j : Fin 4096) : place y (place y j) = j := by
  apply Fin.ext
  show 1024 * ((y.val + 4 - (1024 * ((y.val + 4 - j.val / 1024) % 4) + j.val % 1024) / 1024) % 4)
    + (1024 * ((y.val + 4 - j.val / 1024) % 4) + j.val % 1024) % 1024 = j.val
  omega

/-- The order in which a device meets the keys. -/
def order (y : Fin 4) : Fin 4096 ≃ Fin 4096 := ⟨place y, place y, place_place y, place_place y⟩

theorem src_place (c : Dev nD) (j : Fin 4096) : (src c j).val / 4 % 4 = (c.val / 4 % 4 + 4 - j.val / 1024) % 4 := by
  have hp (c : Dev nD) : (prv c).val / 4 % 4 = (c.val / 4 % 4 + 3) % 4 := by
    show (16 * (c.val / 16) + 4 * (((c.val / 4) % 4 + 3) % 4) + c.val % 4) / 4 % 4 = _
    omega
  have hj := j.isLt
  unfold src
  split_ifs
  · omega
  · rw [hp]; omega
  · rw [hp, hp]; omega
  · rw [hp, hp, hp]; omega

theorem part_src (c : Dev nD) (A : S4.Idx → EReal) (j : Fin 4096) (h : Fin 16) (d : Fin 128) :
    part (src c j) A (ix4 0 ⟨j.val % 1024, by omega⟩ h d) = A (ix4 0 (order ⟨c.val / 4 % 4, by omega⟩ j) h d) := by
  rw [part_apply]
  congr 2
  refine Fin.ext ?_
  show 1024 * ((src c j).val / 4 % 4) + j.val % 1024 = 1024 * ((c.val / 4 % 4 + 4 - j.val / 1024) % 4) + j.val % 1024
  rw [src_place]

/-- The value equation. -/
theorem res_eq (m : (ℓ : Loc nD τ sig) → Buf (Elt Ideal) ℓ) (Q K V : S4.Idx → EReal)
    (hQ : ∀ c, argQ m c = part c Q) (hK : ∀ c, argK m c = part c K) (hV : ∀ c, argV m c = part c V)
    (hf : ∀ c, Cert.Pre_finite_qk_KernelIdeal.fn (F := Ideal) (argQ m c) (argK m c) (argV m c) = fun _ => 1#1) (c : Dev nD) :
    (res m c : S1x1024x16x128.Idx → EReal) = part c (Reference.out Q K V) := by
  funext i
  obtain ⟨z, r, h, d, rfl⟩ : ∃ (z : Fin 1) (r : Fin 1024) (h : Fin 16) (d : Fin 128), i = ix4 z r h d :=
    ⟨i 0, i 1, i 2, i 3, funext fun a => by fin_cases a <;> rfl⟩
  obtain rfl : z = 0 := Subsingleton.elim _ _
  rw [part_apply, Reference.out_at]
  refine (res_apply m c h r d).trans ?_
  rw [← mix_eq_mixShares]
  · refine Eq.trans ?_ (mix_equiv (order ⟨c.val / 4 % 4, by omega⟩) _ _)
    congr 1
    · funext j
      congr 1
      refine Finset.sum_congr rfl fun x _ => ?_
      rw [hQ, hK, part_src, part_apply]
    · funext j
      rw [hV, part_src]
  · intro j
    have hr (A : S4.Idx → EReal) (j : Fin 4096) (x : Fin 128) : ∃ c : Dev nD, part c A (ix4 0 ⟨j.val % 1024, by omega⟩ h x) = A (ix4 0 j h x) := by
      refine ⟨⟨4 * (j.val / 1024), by show _ < 32; omega⟩, ?_⟩
      rw [part_apply]
      congr 2
      exact Fin.ext (show 1024 * (4 * (j.val / 1024) / 4 % 4) + j.val % 1024 = j.val by omega)
    refine score_real _ _ (fun x => ?_) (fun x => ?_)
    · rw [← part_apply c Q r h x, ← hQ]
      exact (finite_at _ _ _ (hf c) r h x).1
    · obtain ⟨c', e⟩ := hr K j x
      rw [← e, ← hK]
      exact (finite_at _ _ _ (hf c') _ h x).2

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Values.Equation
public import Idealize.ShloMosaic.Adequacy
public import Idealize.ShloMosaic.Init

@[expose] public section

noncomputable section

namespace Cert.Proof

open Idealize.ShloMosaic Idealize.SL.Sem

theorem kernel_quiet : Cert.quiescent_Kernel (hKernel := Cert.Kernel.Gen.facts) := fun m g _ =>
  (θ_run _ _ _).mono (fun r h => ⟨fun c => ⟨(h.1 c).1, (h.1 c).2.1, (h.1 c).2.2.1⟩, h.2⟩) (Cert.Kernel.Own.run_main (F := Bits) m g)

theorem ideal_quiet : Cert.quiescent_KernelIdeal (hKernelIdeal := Cert.KernelIdeal.Gen.facts) := fun m g _ =>
  (θ_run _ _ _).mono (fun r h => ⟨fun c => ⟨(h.1 c).1, (h.1 c).2.1, (h.1 c).2.2.1⟩, h.2⟩) (Cert.KernelIdeal.Own.run_main (F := Ideal) m g)

theorem reference_quiet : Cert.quiescent_ReferenceIdeal (hReferenceIdeal := Cert.ReferenceIdeal.Gen.facts) := fun m g _ =>
  (θ_run _ _ _).mono (fun r h => ⟨fun c => (h c).2, sem_eq_zero_of_no_sems (by decide) _⟩) (Cert.ReferenceIdeal.Value.run (F := Ideal) m g)

/-- The kernel's result on each device is its block of the reference's. -/
theorem value : Cert.algebraic_KernelIdeal_ReferenceIdeal_pre_finite_qk_KernelIdeal (hKernelIdeal := Cert.KernelIdeal.Gen.facts)
    (hReferenceIdeal := Cert.ReferenceIdeal.Gen.facts) (hPre_finite_qk_KernelIdeal := Cert.Values.pre_kernel) := fun m g m' g' hf ha =>
  ⟨_, (θ_run _ _ _).mono (fun r h c => ⟨(h.1 c).2.2.2.trans
        (Cert.Values.res_eq m _ _ _ (fun c => (ha c).1) (fun c => (ha c).2.1) (fun c => (ha c).2.2) hf c), (h.1 c).1, (h.1 c).2.1, (h.1 c).2.2.1⟩)
      (Cert.KernelIdeal.Own.run_main (F := Ideal) m g),
    (θ_run _ _ _).mono (fun r h => h 0) (Cert.Values.Reference.run_out m' g')⟩

theorem claim : Cert.Claim :=
  ⟨Cert.Kernel.Gen.facts, Cert.KernelIdeal.Gen.facts, Cert.ReferenceIdeal.Gen.facts, Cert.Values.pre_kernel, Cert.Values.pre_reference,
    kernel_quiet, ideal_quiet, fun m g _ => ideal_quiet m g trivial, reference_quiet, fun m g _ => reference_quiet m g trivial, trivial, value⟩

end Cert.Proof

end
